-- ==== Defs.lean ====
def Pre_Kernel [hPre_adapters_exist : Cert.Pre_adapters_exist.Facts] (m : (ℓ : Loc Cert.Kernel.nD Cert.Kernel.τ Cert.Kernel.sig) → Buf (Elt Bits) ℓ) : Prop :=
  ∀ c : Dev Cert.Kernel.nD,
    (Cert.Pre_adapters_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_adapters_exist : Cert.Pre_adapters_exist.Facts] (m : (ℓ : Loc Cert.KernelIdeal.nD Cert.KernelIdeal.τ Cert.KernelIdeal.sig) → Buf (Elt Ideal) ℓ) : Prop :=
  ∀ c : Dev Cert.KernelIdeal.nD,
    (Cert.Pre_adapters_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_adapters_exist [hPre_adapters_exist : Cert.Pre_adapters_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_adapters_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_adapters_exist : Cert.Pre_adapters_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_adapters_exist : Cert.Pre_adapters_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_adapters_exist [hReferenceIdeal : Cert.ReferenceIdeal.Facts] [hPre_adapters_exist : Cert.Pre_adapters_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_adapters_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_adapters_exist : Cert.Pre_adapters_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v136) = v2 c
          ∧ r.2.mem ((c.tc : Thread Cert.ReferenceIdeal.nD Cert.ReferenceIdeal.τ).loc Cert.ReferenceIdeal.main_v137) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_v126) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_adapters_exist : Cert.Pre_adapters_exist.Facts),
    quiescent_Kernel (hKernel := hKernel) (hPre_adapters_exist := hPre_adapters_exist)
    ∧ quiescent_KernelIdeal (hKernelIdeal := hKernelIdeal) (hPre_adapters_exist := hPre_adapters_exist)
    ∧ quiescent_ReferenceIdeal (hReferenceIdeal := hReferenceIdeal)
    ∧ quiescent_ReferenceIdeal_pre_adapters_exist (hReferenceIdeal := hReferenceIdeal) (hPre_adapters_exist := hPre_adapters_exist)
    ∧ preserves_Kernel_KernelIdeal
    ∧ algebraic_KernelIdeal_ReferenceIdeal (hKernelIdeal := hKernelIdeal) (hReferenceIdeal := hReferenceIdeal) (hPre_adapters_exist := hPre_adapters_exist)
-- ==== Pre_adapters_exist.lean ====
abbrev S12x1x3584 : Shape := ⟨3, ![12, 1, 3584]⟩
abbrev S3584 : Shape := ⟨1, ![3584]⟩
abbrev S12 : Shape := ⟨1, ![12]⟩
abbrev S1792x37888 : Shape := ⟨2, ![1792, 37888]⟩
abbrev S28x37888 : Shape := ⟨2, ![28, 37888]⟩
abbrev S9472x3584 : Shape := ⟨2, ![9472, 3584]⟩
abbrev S148x3584 : Shape := ⟨2, ![148, 3584]⟩
abbrev S5x3584x128 : Shape := ⟨3, ![5, 3584, 128]⟩
abbrev S5x2x64x18944 : Shape := ⟨4, ![5, 2, 64, 18944]⟩
abbrev S5x18944x64 : Shape := ⟨3, ![5, 18944, 64]⟩
abbrev S5x64x3584 : Shape := ⟨3, ![5, 64, 3584]⟩
abbrev S5 : Shape := ⟨1, ![5]⟩
abbrev S_ : Shape := ⟨0, ![]⟩

class Facts : Prop where
  bcast_S_S12 : S_.BroadcastsInDim S12 (![] : Fin 0 → Fin S12.rank)

variable [Facts]

def fn {F : FTy → Type} [FloatOps F] (main_arg0 : FVec F S12x1x3584 .bf16) (main_arg1 : FVec F S3584 .f32) (main_arg2 : IVec S12 32) (main_arg3 : IVec S1792x37888 8) (main_arg4 : FVec F S28x37888 .bf16) (main_arg5 : IVec S9472x3584 8) (main_arg6 : FVec F S148x3584 .bf16) (main_arg7 : FVec F S5x3584x128 .bf16) (main_arg8 : FVec F S5x2x64x18944 .bf16) (main_arg9 : FVec F S5x18944x64 .bf16) (main_arg10 : FVec F S5x64x3584 .bf16) (main_arg11 : FVec F S5 .f32) : IVec S12 1 :=
  let main_c : IVec S_ 32 := constantI S_ 32 0#32
  let main_v0 : IVec S12 32 := broadcastInDim S12 ![] bcast_S_S12 main_c
  let main_v1 : IVec S12 1 := cmpi .sge main_arg2 main_v0
  let main_c_0 : IVec S_ 32 := constantI S_ 32 5#32
  let main_v2 : IVec S12 32 := broadcastInDim S12 ![] bcast_S_S12 main_c_0
  let main_v3 : IVec S12 1 := cmpi .slt main_arg2 main_v2
  let main_v4 : IVec S12 1 := andi main_v1 main_v3
  main_v4
-- ==== Kernel.lean ====
abbrev S12x1x3584 : Shape := ⟨3, ![12, 1, 3584]⟩
abbrev S3584 : Shape := ⟨1, ![3584]⟩
abbrev S12 : Shape := ⟨1, ![12]⟩
abbrev S1792x37888 : Shape := ⟨2, ![1792, 37888]⟩
abbrev S28x37888 : Shape := ⟨2, ![28, 37888]⟩
abbrev S9472x3584 : Shape := ⟨2, ![9472, 3584]⟩
abbrev S148x3584 : Shape := ⟨2, ![148, 3584]⟩
abbrev S5x3584x128 : Shape := ⟨3, ![5, 3584, 128]⟩
abbrev S5x2x64x18944 : Shape := ⟨4, ![5, 2, 64, 18944]⟩
abbrev S5x18944x64 : Shape := ⟨3, ![5, 18944, 64]⟩
abbrev S5x64x3584 : Shape := ⟨3, ![5, 64, 3584]⟩
abbrev S5 : Shape := ⟨1, ![5]⟩
abbrev S12x3584 : Shape := ⟨2, ![12, 3584]⟩
abbrev S1x3584 : Shape := ⟨2, ![1, 3584]⟩
abbrev S12x9472 : Shape := ⟨2, ![12, 9472]⟩
abbrev S12x128 : Shape := ⟨2, ![12, 128]⟩
abbrev S12x64 : Shape := ⟨2, ![12, 64]⟩
abbrev S1792x256 : Shape := ⟨2, ![1792, 256]⟩
abbrev S28x256 : Shape := ⟨2, ![28, 256]⟩
abbrev S5x2x64x256 : Shape := ⟨4, ![5, 2, 64, 256]⟩
abbrev S256x3584 : Shape := ⟨2, ![256, 3584]⟩
abbrev S5x256x64 : Shape := ⟨3, ![5, 256, 64]⟩
abbrev S12x256 : Shape := ⟨2, ![12, 256]⟩
abbrev S16x3584 : Shape := ⟨2, ![16, 3584]⟩
abbrev S2x16x320 : Shape := ⟨3, ![2, 16, 320]⟩
abbrev S256x256 : Shape := ⟨2, ![256, 256]⟩
abbrev S5x16x64 : Shape := ⟨3, ![5, 16, 64]⟩
abbrev S74x2x3584 : Shape := ⟨3, ![74, 2, 3584]⟩
abbrev S16 : Shape := ⟨1, ![16]⟩
abbrev S16x1 : Shape := ⟨2, ![16, 1]⟩
abbrev S16x128 : Shape := ⟨2, ![16, 128]⟩
abbrev S16x256 : Shape := ⟨2, ![16, 256]⟩
abbrev S1 : Shape := ⟨1, ![1]⟩
abbrev S1x3584x128 : Shape := ⟨3, ![1, 3584, 128]⟩
abbrev S3584x128 : Shape := ⟨2, ![3584, 128]⟩
abbrev S16x64 : Shape := ⟨2, ![16, 64]⟩
abbrev S16x320 : Shape := ⟨2, ![16, 320]⟩
abbrev S1x16x320 : Shape := ⟨3, ![1, 16, 320]⟩
abbrev S74x3584 : Shape := ⟨2, ![74, 3584]⟩
abbrev S74x1x3584 : Shape := ⟨3, ![74, 1, 3584]⟩
abbrev S5x1x64x256 : Shape := ⟨4, ![5, 1, 64, 256]⟩
abbrev S5x64x256 : Shape := ⟨3, ![5, 64, 256]⟩
abbrev S320x256 : Shape := ⟨2, ![320, 256]⟩
abbrev S1x256 : Shape := ⟨2, ![1, 256]⟩
abbrev S1x1x256 : Shape := ⟨3, ![1, 1, 256]⟩
abbrev S1x2x256 : Shape := ⟨3, ![1, 2, 256]⟩
abbrev S128x256 : Shape := ⟨2, ![128, 256]⟩
abbrev S128x1x256 : Shape := ⟨3, ![128, 1, 256]⟩
abbrev S128x2x256 : Shape := ⟨3, ![128, 2, 256]⟩
abbrev S1x2x3584 : Shape := ⟨3, ![1, 2, 3584]⟩
abbrev S1x16x64 : Shape := ⟨3, ![1, 16, 64]⟩
abbrev S1x256x64 : Shape := ⟨3, ![1, 256, 64]⟩
abbrev S256x64 : Shape := ⟨2, ![256, 64]⟩
abbrev S1x64x3584 : Shape := ⟨3, ![1, 64, 3584]⟩
abbrev S64x3584 : Shape := ⟨2, ![64, 3584]⟩

abbrev nBuf : Space → Nat
  | .hbm => 20
  | .vmem => 46
  | .smem => 2
  | _ => 0

abbrev bufTy : (tb : Table) → Fin (tcTables nBuf tb) → BufTy
  | .hbm, ⟨0, _⟩ => ⟨S12x1x3584, .bf16⟩
  | .hbm, ⟨1, _⟩ => ⟨S3584, .f32⟩
  | .hbm, ⟨2, _⟩ => ⟨S12, .i32⟩
  | .hbm, ⟨3, _⟩ => ⟨S1792x37888, .i8⟩
  | .hbm, ⟨4, _⟩ => ⟨S28x37888, .bf16⟩
  | .hbm, ⟨5, _⟩ => ⟨S9472x3584, .i8⟩
  | .hbm, ⟨6, _⟩ => ⟨S148x3584, .bf16⟩
  | .hbm, ⟨7, _⟩ => ⟨S5x3584x128, .bf16⟩
  | .hbm, ⟨8, _⟩ => ⟨S5x2x64x18944, .bf16⟩
  | .hbm, ⟨9, _⟩ => ⟨S5x18944x64, .bf16⟩
  | .hbm, ⟨10, _⟩ => ⟨S5x64x3584, .bf16⟩
  | .hbm, ⟨11, _⟩ => ⟨S5, .f32⟩
  | .hbm, ⟨12, _⟩ => ⟨S12x3584, .bf16⟩
  | .hbm, ⟨13, _⟩ => ⟨S1x3584, .f32⟩
  | .hbm, ⟨14, _⟩ => ⟨S12x3584, .bf16⟩
  | .hbm, ⟨15, _⟩ => ⟨S12x3584, .bf16⟩
  | .hbm, ⟨16, _⟩ => ⟨S12x9472, .bf16⟩
  | .hbm, ⟨17, _⟩ => ⟨S12x9472, .bf16⟩
  | .hbm, ⟨18, _⟩ => ⟨S12x128, .bf16⟩
  | .hbm, ⟨19, _⟩ => ⟨S12x64, .bf16⟩
  | .local _ .vmem, ⟨0, _⟩ => ⟨S12x3584, .bf16⟩
  | .local _ .vmem, ⟨1, _⟩ => ⟨S1x3584, .f32⟩
  | .local _ .vmem, ⟨2, _⟩ => ⟨S5x3584x128, .bf16⟩
  | .local _ .vmem, ⟨3, _⟩ => ⟨S1792x256, .i8⟩
  | .local _ .vmem, ⟨4, _⟩ => ⟨S1792x256, .i8⟩
  | .local _ .vmem, ⟨5, _⟩ => ⟨S1792x256, .i8⟩
  | .local _ .vmem, ⟨6, _⟩ => ⟨S1792x256, .i8⟩
  | .local _ .vmem, ⟨7, _⟩ => ⟨S1792x256, .i8⟩
  | .local _ .vmem, ⟨8, _⟩ => ⟨S1792x256, .i8⟩
  | .local _ .vmem, ⟨9, _⟩ => ⟨S1792x256, .i8⟩
  | .local _ .vmem, ⟨10, _⟩ => ⟨S1792x256, .i8⟩
  | .local _ .vmem, ⟨11, _⟩ => ⟨S28x256, .bf16⟩
  | .local _ .vmem, ⟨12, _⟩ => ⟨S28x256, .bf16⟩
  | .local _ .vmem, ⟨13, _⟩ => ⟨S28x256, .bf16⟩
  | .local _ .vmem, ⟨14, _⟩ => ⟨S28x256, .bf16⟩
  | .local _ .vmem, ⟨15, _⟩ => ⟨S28x256, .bf16⟩
  | .local _ .vmem, ⟨16, _⟩ => ⟨S28x256, .bf16⟩
  | .local _ .vmem, ⟨17, _⟩ => ⟨S28x256, .bf16⟩
  | .local _ .vmem, ⟨18, _⟩ => ⟨S28x256, .bf16⟩
  | .local _ .vmem, ⟨19, _⟩ => ⟨S5x2x64x256, .bf16⟩
  | .local _ .vmem, ⟨20, _⟩ => ⟨S5x2x64x256, .bf16⟩
  | .local _ .vmem, ⟨21, _⟩ => ⟨S5x2x64x256, .bf16⟩
  | .local _ .vmem, ⟨22, _⟩ => ⟨S5x2x64x256, .bf16⟩
  | .local _ .vmem, ⟨23, _⟩ => ⟨S256x3584, .i8⟩
  | .local _ .vmem, ⟨24, _⟩ => ⟨S256x3584, .i8⟩
  | .local _ .vmem, ⟨25, _⟩ => ⟨S148x3584, .bf16⟩
  | .local _ .vmem, ⟨26, _⟩ => ⟨S5x256x64, .bf16⟩
  | .local _ .vmem, ⟨27, _⟩ => ⟨S5x256x64, .bf16⟩
  | .local _ .vmem, ⟨28, _⟩ => ⟨S5x256x64, .bf16⟩
  | .local _ .vmem, ⟨29, _⟩ => ⟨S5x256x64, .bf16⟩
  | .local _ .vmem, ⟨30, _⟩ => ⟨S5x64x3584, .bf16⟩
  | .local _ .vmem, ⟨31, _⟩ => ⟨S12x3584, .bf16⟩
  | .local _ .vmem, ⟨32, _⟩ => ⟨S12x3584, .bf16⟩
  | .local _ .vmem, ⟨33, _⟩ => ⟨S12x256, .bf16⟩
  | .local _ .vmem, ⟨34, _⟩ => ⟨S12x256, .bf16⟩
  | .local _ .vmem, ⟨35, _⟩ => ⟨S12x256, .bf16⟩
  | .local _ .vmem, ⟨36, _⟩ => ⟨S12x256, .bf16⟩
  | .local _ .vmem, ⟨37, _⟩ => ⟨S12x128, .bf16⟩
  | .local _ .vmem, ⟨38, _⟩ => ⟨S12x64, .bf16⟩
  | .local _ .vmem, ⟨39, _⟩ => ⟨S16x3584, .bf16⟩
  | .local _ .vmem, ⟨40, _⟩ => ⟨S2x16x320, .bf16⟩
  | .local _ .vmem, ⟨41, _⟩ => ⟨S256x256, .bf16⟩
  | .local _ .vmem, ⟨42, _⟩ => ⟨S16x3584, .f32⟩
  | .local _ .vmem, ⟨43, _⟩ => ⟨S5x16x64, .f32⟩
  | .local _ .vmem, ⟨44, _⟩ => ⟨S16x3584, .f32⟩
  | .local _ .vmem, ⟨45, _⟩ => ⟨S74x2x3584, .bf16⟩
  | .local _ .smem, ⟨0, _⟩ => ⟨S12, .i32⟩
  | .local _ .smem, ⟨1, _⟩ => ⟨S5, .f32⟩
  | _, _ => ⟨S12x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v2_4 : Ref sig .tc := ⟨.hbm, 18, rfl⟩
abbrev main_v2_5 : Ref sig .tc := ⟨.hbm, 19, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg25_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_scratch5 : Ref sig .tc := ⟨.vmem, 44, rfl⟩
abbrev cc0_scratch6 : Ref sig .tc := ⟨.vmem, 45, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem20_0 : DmaSem sig := 33
abbrev cc0_sem21_0 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem25_0 : DmaSem sig := 40

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v2763 : BitVec 32) : Fin 1 → Nat :=
  let v2764 : Index := Scalar.indexCast v2763
  ![v2764.toNat]

def k0_chk1 (i : grid0.Coords) (v2763 : BitVec 32) : Prop :=
  (∀ (k0_h1 : k0_cond1 i = 1#1), ∀ a, (k0_off1 v2763) a + S1.size a ≤ S5.size a)
theorem k0_off1_inb : ∀ (i : grid0.Coords) (v2763 : BitVec 32) (k0_hw1 : k0_chk1 i v2763), ∀ (k0_h1 : k0_cond1 i = 1#1), ∀ a, (k0_off1 v2763) a + S1.size a ≤ S5.size a := fun i v2763 k0_hw1 k0_h1 => k0_hw1 k0_h1

def k0_off2 (v2770 : BitVec 32) : Fin 1 → Nat :=
  let v2771 : Index := Scalar.indexCast v2770
  ![v2771.toNat]

def k0_chk2 (i : grid0.Coords) (v2770 : BitVec 32) : Prop :=
  (∀ (k0_h1 : k0_cond1 i = 1#1), ∀ a, (k0_off2 v2770) a + S1.size a ≤ S5.size a)
theorem k0_off2_inb : ∀ (i : grid0.Coords) (v2770 : BitVec 32) (k0_hw2 : k0_chk2 i v2770), ∀ (k0_h1 : k0_cond1 i = 1#1), ∀ a, (k0_off2 v2770) a + S1.size a ≤ S5.size a := fun i v2770 k0_hw2 k0_h1 => k0_hw2 k0_h1

def k0_off3 (v2777 : BitVec 32) : Fin 1 → Nat :=
  let v2778 : Index := Scalar.indexCast v2777
  ![v2778.toNat]

def k0_chk3 (i : grid0.Coords) (v2777 : BitVec 32) : Prop :=
  (∀ (k0_h1 : k0_cond1 i = 1#1), ∀ a, (k0_off3 v2777) a + S1.size a ≤ S5.size a)
theorem k0_off3_inb : ∀ (i : grid0.Coords) (v2777 : BitVec 32) (k0_hw3 : k0_chk3 i v2777), ∀ (k0_h1 : k0_cond1 i = 1#1), ∀ a, (k0_off3 v2777) a + S1.size a ≤ S5.size a := fun i v2777 k0_hw3 k0_h1 => k0_hw3 k0_h1

def k0_off4 (v2784 : BitVec 32) : Fin 1 → Nat :=
  let v2785 : Index := Scalar.indexCast v2784
  ![v2785.toNat]

def k0_chk4 (i : grid0.Coords) (v2784 : BitVec 32) : Prop :=
  (∀ (k0_h1 : k0_cond1 i = 1#1), ∀ a, (k0_off4 v2784) a + S1.size a ≤ S5.size a)
theorem k0_off4_inb : ∀ (i : grid0.Coords) (v2784 : BitVec 32) (k0_hw4 : k0_chk4 i v2784), ∀ (k0_h1 : k0_cond1 i = 1#1), ∀ a, (k0_off4 v2784) a + S1.size a ≤ S5.size a := fun i v2784 k0_hw4 k0_h1 => k0_hw4 k0_h1

def k0_off5 (v2791 : BitVec 32) : Fin 1 → Nat :=
  let v2792 : Index := Scalar.indexCast v2791
  ![v2792.toNat]

def k0_chk5 (i : grid0.Coords) (v2791 : BitVec 32) : Prop :=
  (∀ (k0_h1 : k0_cond1 i = 1#1), ∀ a, (k0_off5 v2791) a + S1.size a ≤ S5.size a)
theorem k0_off5_inb : ∀ (i : grid0.Coords) (v2791 : BitVec 32) (k0_hw5 : k0_chk5 i v2791), ∀ (k0_h1 : k0_cond1 i = 1#1), ∀ a, (k0_off5 v2791) a + S1.size a ≤ S5.size a := fun i v2791 k0_hw5 k0_h1 => k0_hw5 k0_h1

def k0_off6 (v2798 : BitVec 32) : Fin 1 → Nat :=
  let v2799 : Index := Scalar.indexCast v2798
  ![v2799.toNat]

def k0_chk6 (i : grid0.Coords) (v2798 : BitVec 32) : Prop :=
  (∀ (k0_h1 : k0_cond1 i = 1#1), ∀ a, (k0_off6 v2798) a + S1.size a ≤ S5.size a)
theorem k0_off6_inb : ∀ (i : grid0.Coords) (v2798 : BitVec 32) (k0_hw6 : k0_chk6 i v2798), ∀ (k0_h1 : k0_cond1 i = 1#1), ∀ a, (k0_off6 v2798) a + S1.size a ≤ S5.size a := fun i v2798 k0_hw6 k0_h1 => k0_hw6 k0_h1

def k0_off7 (v2805 : BitVec 32) : Fin 1 → Nat :=
  let v2806 : Index := Scalar.indexCast v2805
  ![v2806.toNat]

def k0_chk7 (i : grid0.Coords) (v2805 : BitVec 32) : Prop :=
  (∀ (k0_h1 : k0_cond1 i = 1#1), ∀ a, (k0_off7 v2805) a + S1.size a ≤ S5.size a)
theorem k0_off7_inb : ∀ (i : grid0.Coords) (v2805 : BitVec 32) (k0_hw7 : k0_chk7 i v2805), ∀ (k0_h1 : k0_cond1 i = 1#1), ∀ a, (k0_off7 v2805) a + S1.size a ≤ S5.size a := fun i v2805 k0_hw7 k0_h1 => k0_hw7 k0_h1

def k0_off8 (v2812 : BitVec 32) : Fin 1 → Nat :=
  let v2813 : Index := Scalar.indexCast v2812
  ![v2813.toNat]

def k0_chk8 (i : grid0.Coords) (v2812 : BitVec 32) : Prop :=
  (∀ (k0_h1 : k0_cond1 i = 1#1), ∀ a, (k0_off8 v2812) a + S1.size a ≤ S5.size a)
theorem k0_off8_inb : ∀ (i : grid0.Coords) (v2812 : BitVec 32) (k0_hw8 : k0_chk8 i v2812), ∀ (k0_h1 : k0_cond1 i = 1#1), ∀ a, (k0_off8 v2812) a + S1.size a ≤ S5.size a := fun i v2812 k0_hw8 k0_h1 => k0_hw8 k0_h1

def k0_off9 (v2819 : BitVec 32) : Fin 1 → Nat :=
  let v2820 : Index := Scalar.indexCast v2819
  ![v2820.toNat]

def k0_chk9 (i : grid0.Coords) (v2819 : BitVec 32) : Prop :=
  (∀ (k0_h1 : k0_cond1 i = 1#1), ∀ a, (k0_off9 v2819) a + S1.size a ≤ S5.size a)
theorem k0_off9_inb : ∀ (i : grid0.Coords) (v2819 : BitVec 32) (k0_hw9 : k0_chk9 i v2819), ∀ (k0_h1 : k0_cond1 i = 1#1), ∀ a, (k0_off9 v2819) a + S1.size a ≤ S5.size a := fun i v2819 k0_hw9 k0_h1 => k0_hw9 k0_h1

def k0_off10 (v2826 : BitVec 32) : Fin 1 → Nat :=
  let v2827 : Index := Scalar.indexCast v2826
  ![v2827.toNat]

def k0_chk10 (i : grid0.Coords) (v2826 : BitVec 32) : Prop :=
  (∀ (k0_h1 : k0_cond1 i = 1#1), ∀ a, (k0_off10 v2826) a + S1.size a ≤ S5.size a)
theorem k0_off10_inb : ∀ (i : grid0.Coords) (v2826 : BitVec 32) (k0_hw10 : k0_chk10 i v2826), ∀ (k0_h1 : k0_cond1 i = 1#1), ∀ a, (k0_off10 v2826) a + S1.size a ≤ S5.size a := fun i v2826 k0_hw10 k0_h1 => k0_hw10 k0_h1

def k0_off11 (v2833 : BitVec 32) : Fin 1 → Nat :=
  let v2834 : Index := Scalar.indexCast v2833
  ![v2834.toNat]

def k0_chk11 (i : grid0.Coords) (v2833 : BitVec 32) : Prop :=
  (∀ (k0_h1 : k0_cond1 i = 1#1), ∀ a, (k0_off11 v2833) a + S1.size a ≤ S5.size a)
theorem k0_off11_inb : ∀ (i : grid0.Coords) (v2833 : BitVec 32) (k0_hw11 : k0_chk11 i v2833), ∀ (k0_h1 : k0_cond1 i = 1#1), ∀ a, (k0_off11 v2833) a + S1.size a ≤ S5.size a := fun i v2833 k0_hw11 k0_h1 => k0_hw11 k0_h1

def k0_off12 (v2840 : BitVec 32) : Fin 1 → Nat :=
  let v2841 : Index := Scalar.indexCast v2840
  ![v2841.toNat]

def k0_chk12 (i : grid0.Coords) (v2840 : BitVec 32) : Prop :=
  (∀ (k0_h1 : k0_cond1 i = 1#1), ∀ a, (k0_off12 v2840) a + S1.size a ≤ S5.size a)
theorem k0_off12_inb : ∀ (i : grid0.Coords) (v2840 : BitVec 32) (k0_hw12 : k0_chk12 i v2840), ∀ (k0_h1 : k0_cond1 i = 1#1), ∀ a, (k0_off12 v2840) a + S1.size a ≤ S5.size a := fun i v2840 k0_hw12 k0_h1 => k0_hw12 k0_h1

def k0_off13 (i : grid0.Coords) (c0_i32_830 : BitVec 32) : Fin 3 → Nat :=
  let c2_i32 : BitVec 32 := 2#32
  let arg0 : BitVec 32 := BitVec.ofNat 32 (i 0).val
  let v1674 : BitVec 32 := Scalar.muli c2_i32 arg0
  let v1675 : BitVec 32 := Scalar.addi v1674 c0_i32_830
  let v1676 : Index := Scalar.indexCast v1675
  let c0_831 : Index := 0#32
  let c0_832 : Index := 0#32
  ![v1676.toNat, 0, 0]
def k0_cond2 (i : grid0.Coords) : BitVec 1 :=
  let arg0 : BitVec 32 := BitVec.ofNat 32 (i 0).val
  let c36_i32 : BitVec 32 := 36#32
  let v2475 : BitVec 1 := Scalar.cmpi .eq arg0 c36_i32
  let v2476 : BitVec 32 := Scalar.extui v2475
  let c0_i32_1214 : BitVec 32 := 0#32
  let v2477 : BitVec 1 := Scalar.cmpi .ne v2476 c0_i32_1214
  v2477

def k0_off14 (v2544 : BitVec 32) : Fin 1 → Nat :=
  let v2545 : Index := Scalar.indexCast v2544
  ![v2545.toNat]

def k0_chk13 (i : grid0.Coords) (v2544 : BitVec 32) : Prop :=
  (∀ (k0_h2 : k0_cond2 i = 1#1), ∀ a, (k0_off14 v2544) a + S1.size a ≤ S5.size a)
theorem k0_off14_inb : ∀ (i : grid0.Coords) (v2544 : BitVec 32) (k0_hw13 : k0_chk13 i v2544), ∀ (k0_h2 : k0_cond2 i = 1#1), ∀ a, (k0_off14 v2544) a + S1.size a ≤ S5.size a := fun i v2544 k0_hw13 k0_h2 => k0_hw13 k0_h2

def k0_off15 (v2551 : BitVec 32) : Fin 1 → Nat :=
  let v2552 : Index := Scalar.indexCast v2551
  ![v2552.toNat]

def k0_chk14 (i : grid0.Coords) (v2551 : BitVec 32) : Prop :=
  (∀ (k0_h2 : k0_cond2 i = 1#1), ∀ a, (k0_off15 v2551) a + S1.size a ≤ S5.size a)
theorem k0_off15_inb : ∀ (i : grid0.Coords) (v2551 : BitVec 32) (k0_hw14 : k0_chk14 i v2551), ∀ (k0_h2 : k0_cond2 i = 1#1), ∀ a, (k0_off15 v2551) a + S1.size a ≤ S5.size a := fun i v2551 k0_hw14 k0_h2 => k0_hw14 k0_h2

def k0_off16 (v2558 : BitVec 32) : Fin 1 → Nat :=
  let v2559 : Index := Scalar.indexCast v2558
  ![v2559.toNat]

def k0_chk15 (i : grid0.Coords) (v2558 : BitVec 32) : Prop :=
  (∀ (k0_h2 : k0_cond2 i = 1#1), ∀ a, (k0_off16 v2558) a + S1.size a ≤ S5.size a)
theorem k0_off16_inb : ∀ (i : grid0.Coords) (v2558 : BitVec 32) (k0_hw15 : k0_chk15 i v2558), ∀ (k0_h2 : k0_cond2 i = 1#1), ∀ a, (k0_off16 v2558) a + S1.size a ≤ S5.size a := fun i v2558 k0_hw15 k0_h2 => k0_hw15 k0_h2

def k0_off17 (v2565 : BitVec 32) : Fin 1 → Nat :=
  let v2566 : Index := Scalar.indexCast v2565
  ![v2566.toNat]

def k0_chk16 (i : grid0.Coords) (v2565 : BitVec 32) : Prop :=
  (∀ (k0_h2 : k0_cond2 i = 1#1), ∀ a, (k0_off17 v2565) a + S1.size a ≤ S5.size a)
theorem k0_off17_inb : ∀ (i : grid0.Coords) (v2565 : BitVec 32) (k0_hw16 : k0_chk16 i v2565), ∀ (k0_h2 : k0_cond2 i = 1#1), ∀ a, (k0_off17 v2565) a + S1.size a ≤ S5.size a := fun i v2565 k0_hw16 k0_h2 => k0_hw16 k0_h2

def k0_off18 (v2572 : BitVec 32) : Fin 1 → Nat :=
  let v2573 : Index := Scalar.indexCast v2572
  ![v2573.toNat]

def k0_chk17 (i : grid0.Coords) (v2572 : BitVec 32) : Prop :=
  (∀ (k0_h2 : k0_cond2 i = 1#1), ∀ a, (k0_off18 v2572) a + S1.size a ≤ S5.size a)
theorem k0_off18_inb : ∀ (i : grid0.Coords) (v2572 : BitVec 32) (k0_hw17 : k0_chk17 i v2572), ∀ (k0_h2 : k0_cond2 i = 1#1), ∀ a, (k0_off18 v2572) a + S1.size a ≤ S5.size a := fun i v2572 k0_hw17 k0_h2 => k0_hw17 k0_h2

def k0_off19 (v2579 : BitVec 32) : Fin 1 → Nat :=
  let v2580 : Index := Scalar.indexCast v2579
  ![v2580.toNat]

def k0_chk18 (i : grid0.Coords) (v2579 : BitVec 32) : Prop :=
  (∀ (k0_h2 : k0_cond2 i = 1#1), ∀ a, (k0_off19 v2579) a + S1.size a ≤ S5.size a)
theorem k0_off19_inb : ∀ (i : grid0.Coords) (v2579 : BitVec 32) (k0_hw18 : k0_chk18 i v2579), ∀ (k0_h2 : k0_cond2 i = 1#1), ∀ a, (k0_off19 v2579) a + S1.size a ≤ S5.size a := fun i v2579 k0_hw18 k0_h2 => k0_hw18 k0_h2

def k0_off20 (v2586 : BitVec 32) : Fin 1 → Nat :=
  let v2587 : Index := Scalar.indexCast v2586
  ![v2587.toNat]

def k0_chk19 (i : grid0.Coords) (v2586 : BitVec 32) : Prop :=
  (∀ (k0_h2 : k0_cond2 i = 1#1), ∀ a, (k0_off20 v2586) a + S1.size a ≤ S5.size a)
theorem k0_off20_inb : ∀ (i : grid0.Coords) (v2586 : BitVec 32) (k0_hw19 : k0_chk19 i v2586), ∀ (k0_h2 : k0_cond2 i = 1#1), ∀ a, (k0_off20 v2586) a + S1.size a ≤ S5.size a := fun i v2586 k0_hw19 k0_h2 => k0_hw19 k0_h2

def k0_off21 (v2593 : BitVec 32) : Fin 1 → Nat :=
  let v2594 : Index := Scalar.indexCast v2593
  ![v2594.toNat]

def k0_chk20 (i : grid0.Coords) (v2593 : BitVec 32) : Prop :=
  (∀ (k0_h2 : k0_cond2 i = 1#1), ∀ a, (k0_off21 v2593) a + S1.size a ≤ S5.size a)
theorem k0_off21_inb : ∀ (i : grid0.Coords) (v2593 : BitVec 32) (k0_hw20 : k0_chk20 i v2593), ∀ (k0_h2 : k0_cond2 i = 1#1), ∀ a, (k0_off21 v2593) a + S1.size a ≤ S5.size a := fun i v2593 k0_hw20 k0_h2 => k0_hw20 k0_h2

def k0_off22 (v2600 : BitVec 32) : Fin 1 → Nat :=
  let v2601 : Index := Scalar.indexCast v2600
  ![v2601.toNat]

def k0_chk21 (i : grid0.Coords) (v2600 : BitVec 32) : Prop :=
  (∀ (k0_h2 : k0_cond2 i = 1#1), ∀ a, (k0_off22 v2600) a + S1.size a ≤ S5.size a)
theorem k0_off22_inb : ∀ (i : grid0.Coords) (v2600 : BitVec 32) (k0_hw21 : k0_chk21 i v2600), ∀ (k0_h2 : k0_cond2 i = 1#1), ∀ a, (k0_off22 v2600) a + S1.size a ≤ S5.size a := fun i v2600 k0_hw21 k0_h2 => k0_hw21 k0_h2

def k0_off23 (v2607 : BitVec 32) : Fin 1 → Nat :=
  let v2608 : Index := Scalar.indexCast v2607
  ![v2608.toNat]

def k0_chk22 (i : grid0.Coords) (v2607 : BitVec 32) : Prop :=
  (∀ (k0_h2 : k0_cond2 i = 1#1), ∀ a, (k0_off23 v2607) a + S1.size a ≤ S5.size a)
theorem k0_off23_inb : ∀ (i : grid0.Coords) (v2607 : BitVec 32) (k0_hw22 : k0_chk22 i v2607), ∀ (k0_h2 : k0_cond2 i = 1#1), ∀ a, (k0_off23 v2607) a + S1.size a ≤ S5.size a := fun i v2607 k0_hw22 k0_h2 => k0_hw22 k0_h2

def k0_off24 (v2614 : BitVec 32) : Fin 1 → Nat :=
  let v2615 : Index := Scalar.indexCast v2614
  ![v2615.toNat]

def k0_chk23 (i : grid0.Coords) (v2614 : BitVec 32) : Prop :=
  (∀ (k0_h2 : k0_cond2 i = 1#1), ∀ a, (k0_off24 v2614) a + S1.size a ≤ S5.size a)
theorem k0_off24_inb : ∀ (i : grid0.Coords) (v2614 : BitVec 32) (k0_hw23 : k0_chk23 i v2614), ∀ (k0_h2 : k0_cond2 i = 1#1), ∀ a, (k0_off24 v2614) a + S1.size a ≤ S5.size a := fun i v2614 k0_hw23 k0_h2 => k0_hw23 k0_h2

def k0_off25 (v2621 : BitVec 32) : Fin 1 → Nat :=
  let v2622 : Index := Scalar.indexCast v2621
  ![v2622.toNat]

def k0_chk24 (i : grid0.Coords) (v2621 : BitVec 32) : Prop :=
  (∀ (k0_h2 : k0_cond2 i = 1#1), ∀ a, (k0_off25 v2621) a + S1.size a ≤ S5.size a)
theorem k0_off25_inb : ∀ (i : grid0.Coords) (v2621 : BitVec 32) (k0_hw24 : k0_chk24 i v2621), ∀ (k0_h2 : k0_cond2 i = 1#1), ∀ a, (k0_off25 v2621) a + S1.size a ≤ S5.size a := fun i v2621 k0_hw24 k0_h2 => k0_hw24 k0_h2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c37_i32 : BitVec 32 := 37#32
  let v0 : BitVec 32 := Scalar.addi c37_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c74_i32 : BitVec 32 := 74#32
  let v0 : BitVec 32 := Scalar.addi c74_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c111_i32 : BitVec 32 := 111#32
  let v0 : BitVec 32 := Scalar.addi c111_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c37_i32 : BitVec 32 := 37#32
  let v0 : BitVec 32 := Scalar.addi c37_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c74_i32 : BitVec 32 := 74#32
  let v0 : BitVec 32 := Scalar.addi c74_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let c111_i32 : BitVec 32 := 111#32
  let v0 : BitVec 32 := Scalar.addi c111_i32 arg0
  let c0_i32 : BitVec 32 := 0#32
  let c0_i32_0 : BitVec 32 := 0#32
  ![c0_i32.toNat, v0.toNat]

def cc0_transform_13 (i : grid0.Coords) : Fin 4 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc0_transform_14 (i : grid0.Coords) : Fin 4 → Nat :=
  let arg0 : BitVec 32 := BitVec.ofNat 32 (i 0).val
  let c37_i32 : BitVec 32 := 37#32
  let v0 : BitVec 32 := Scalar.addi c37_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_18 (i : grid0.Coords) : Fin 3 → Nat :=
  let arg0 : BitVec 32 := BitVec.ofNat 32 (i 0).val
  let c37_i32 : BitVec 32 := 37#32
  let v0 : BitVec 32 := Scalar.addi c37_i32 arg0
  let c0_i32 : BitVec 32 := 0#32
  let c0_i32_0 : BitVec 32 := 0#32
  let c0_i32_1 : BitVec 32 := 0#32
  ![c0_i32.toNat, v0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_23 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S12 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x3584x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1792x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1792x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1792x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S28x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S28x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S28x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S28x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S5x2x64x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5x2x64x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3584 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S148x3584 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S5x256x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S5x256x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S5x64x3584 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S12x3584 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S12x3584 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S12x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S12x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S12x128 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S12x64 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S12x1x3584 : Shape := ⟨3, ![12, 1, 3584]⟩
abbrev S3584 : Shape := ⟨1, ![3584]⟩
abbrev S12 : Shape := ⟨1, ![12]⟩
abbrev S1792x37888 : Shape := ⟨2, ![1792, 37888]⟩
abbrev S28x37888 : Shape := ⟨2, ![28, 37888]⟩
abbrev S9472x3584 : Shape := ⟨2, ![9472, 3584]⟩
abbrev S148x3584 : Shape := ⟨2, ![148, 3584]⟩
abbrev S5x3584x128 : Shape := ⟨3, ![5, 3584, 128]⟩
abbrev S5x2x64x18944 : Shape := ⟨4, ![5, 2, 64, 18944]⟩
abbrev S5x18944x64 : Shape := ⟨3, ![5, 18944, 64]⟩
abbrev S5x64x3584 : Shape := ⟨3, ![5, 64, 3584]⟩
abbrev S5 : Shape := ⟨1, ![5]⟩
abbrev S12x3584 : Shape := ⟨2, ![12, 3584]⟩
abbrev S_ : Shape := ⟨0, ![]⟩
abbrev S12x1 : Shape := ⟨2, ![12, 1]⟩
abbrev S1x3584 : Shape := ⟨2, ![1, 3584]⟩
abbrev S1x5 : Shape := ⟨2, ![1, 5]⟩
abbrev S12x5 : Shape := ⟨2, ![12, 5]⟩
abbrev S14x37888 : Shape := ⟨2, ![14, 37888]⟩
abbrev S14x128x37888 : Shape := ⟨3, ![14, 128, 37888]⟩
abbrev S14x1x37888 : Shape := ⟨3, ![14, 1, 37888]⟩
abbrev S12x1792 : Shape := ⟨2, ![12, 1792]⟩
abbrev S12x37888 : Shape := ⟨2, ![12, 37888]⟩
abbrev S12x5x128 : Shape := ⟨3, ![12, 5, 128]⟩
abbrev S12x128 : Shape := ⟨2, ![12, 128]⟩
abbrev S12x5x1x1 : Shape := ⟨4, ![12, 5, 1, 1]⟩
abbrev S12x1x2x64 : Shape := ⟨4, ![12, 1, 2, 64]⟩
abbrev S12x5x2x64 : Shape := ⟨4, ![12, 5, 2, 64]⟩
abbrev S2x18944x12 : Shape := ⟨3, ![2, 18944, 12]⟩
abbrev S12x2x18944 : Shape := ⟨3, ![12, 2, 18944]⟩
abbrev S12x1x18944 : Shape := ⟨3, ![12, 1, 18944]⟩
abbrev S12x18944 : Shape := ⟨2, ![12, 18944]⟩
abbrev S74x3584 : Shape := ⟨2, ![74, 3584]⟩
abbrev S74x128x3584 : Shape := ⟨3, ![74, 128, 3584]⟩
abbrev S74x1x3584 : Shape := ⟨3, ![74, 1, 3584]⟩
abbrev S12x9472 : Shape := ⟨2, ![12, 9472]⟩
abbrev S12x5x64 : Shape := ⟨3, ![12, 5, 64]⟩
abbrev S12x64 : Shape := ⟨2, ![12, 64]⟩
abbrev S12x5x1 : Shape := ⟨3, ![12, 5, 1]⟩
abbrev S12x1x64 : Shape := ⟨3, ![12, 1, 64]⟩

abbrev nBuf : Space → Nat
  | .hbm => 174
  | .vmem => 0
  | .smem => 0
  | _ => 0

abbrev hbmTy0_0 (i : Nat) : BufTy := match i % 128 with
  | 0 => ⟨S12x1x3584, .bf16⟩
  | 1 => ⟨S3584, .f32⟩
  | 2 => ⟨S12, .i32⟩
  | 3 => ⟨S1792x37888, .i8⟩
  | 4 => ⟨S28x37888, .bf16⟩
  | 5 => ⟨S9472x3584, .i8⟩
  | 6 => ⟨S148x3584, .bf16⟩
  | 7 => ⟨S5x3584x128, .bf16⟩
  | 8 => ⟨S5x2x64x18944, .bf16⟩
  | 9 => ⟨S5x18944x64, .bf16⟩
  | 10 => ⟨S5x64x3584, .bf16⟩
  | 11 => ⟨S5, .f32⟩
  | 12 => ⟨S12x3584, .bf16⟩
  | 13 => ⟨S12x3584, .f32⟩
  | 14 => ⟨S12x3584, .f32⟩
  | 15 => ⟨S_, .f32⟩
  | 16 => ⟨S12, .f32⟩
  | 17 => ⟨S12x1, .f32⟩
  | 18 => ⟨S_, .f32⟩
  | 19 => ⟨S12x1, .f32⟩
  | 20 => ⟨S12x1, .f32⟩
  | 21 => ⟨S_, .f32⟩
  | 22 => ⟨S12x1, .f32⟩
  | 23 => ⟨S12x1, .f32⟩
  | 24 => ⟨S12x1, .f32⟩
  | 25 => ⟨S12x3584, .f32⟩
  | 26 => ⟨S12x3584, .f32⟩
  | 27 => ⟨S1x3584, .f32⟩
  | 28 => ⟨S12x3584, .f32⟩
  | 29 => ⟨S12x3584, .f32⟩
  | 30 => ⟨S12x3584, .bf16⟩
  | 31 => ⟨S12x1, .i32⟩
  | 32 => ⟨S1x5, .i32⟩
  | 33 => ⟨S12x5, .i32⟩
  | 34 => ⟨S12x5, .i32⟩
  | 35 => ⟨S12x5, .i1⟩
  | 36 => ⟨S12x5, .f32⟩
  | 37 => ⟨S12x5, .bf16⟩
  | 38 => ⟨S_, .i32⟩
  | 39 => ⟨S12, .i32⟩
  | 40 => ⟨S12, .i1⟩
  | 41 => ⟨S_, .i32⟩
  | 42 => ⟨S12, .i32⟩
  | 43 => ⟨S12, .i32⟩
  | 44 => ⟨S12, .i32⟩
  | 45 => ⟨S12x1, .i32⟩
  | 46 => ⟨S12, .f32⟩
  | 47 => ⟨S1792x37888, .i32⟩
  | 48 => ⟨S_, .i32⟩
  | 49 => ⟨S1792x37888, .i32⟩
  | 50 => ⟨S1792x37888, .i32⟩
  | 51 => ⟨S14x37888, .bf16⟩
  | 52 => ⟨S_, .i32⟩
  | 53 => ⟨S1792x37888, .i32⟩
  | 54 => ⟨S1792x37888, .i1⟩
  | 55 => ⟨S_, .i32⟩
  | 56 => ⟨S1792x37888, .i32⟩
  | 57 => ⟨S1792x37888, .i32⟩
  | 58 => ⟨S1792x37888, .i32⟩
  | 59 => ⟨S1792x37888, .bf16⟩
  | 60 => ⟨S14x128x37888, .bf16⟩
  | 61 => ⟨S14x1x37888, .bf16⟩
  | 62 => ⟨S14x128x37888, .bf16⟩
  | 63 => ⟨S14x128x37888, .bf16⟩
  | 64 => ⟨S1792x37888, .bf16⟩
  | 65 => ⟨S_, .i32⟩
  | 66 => ⟨S1792x37888, .i32⟩
  | 67 => ⟨S1792x37888, .i32⟩
  | 68 => ⟨S14x37888, .bf16⟩
  | 69 => ⟨S_, .i32⟩
  | 70 => ⟨S1792x37888, .i32⟩
  | 71 => ⟨S1792x37888, .i1⟩
  | 72 => ⟨S_, .i32⟩
  | 73 => ⟨S1792x37888, .i32⟩
  | 74 => ⟨S1792x37888, .i32⟩
  | 75 => ⟨S1792x37888, .i32⟩
  | 76 => ⟨S1792x37888, .bf16⟩
  | 77 => ⟨S14x128x37888, .bf16⟩
  | 78 => ⟨S14x1x37888, .bf16⟩
  | 79 => ⟨S14x128x37888, .bf16⟩
  | 80 => ⟨S14x128x37888, .bf16⟩
  | 81 => ⟨S1792x37888, .bf16⟩
  | 82 => ⟨S12x1792, .bf16⟩
  | 83 => ⟨S12x37888, .f32⟩
  | 84 => ⟨S12x1792, .bf16⟩
  | 85 => ⟨S12x37888, .f32⟩
  | 86 => ⟨S12x37888, .f32⟩
  | 87 => ⟨S12x5x128, .f32⟩
  | 88 => ⟨S12x128, .f32⟩
  | 89 => ⟨S12x1, .f32⟩
  | 90 => ⟨S12x128, .f32⟩
  | 91 => ⟨S12x128, .f32⟩
  | 92 => ⟨S12x128, .bf16⟩
  | 93 => ⟨S12x5x1x1, .bf16⟩
  | 94 => ⟨S12x1x2x64, .bf16⟩
  | 95 => ⟨S12x5x2x64, .bf16⟩
  | 96 => ⟨S12x5x2x64, .bf16⟩
  | 97 => ⟨S12x5x2x64, .bf16⟩
  | 98 => ⟨S2x18944x12, .f32⟩
  | 99 => ⟨S12x2x18944, .f32⟩
  | 100 => ⟨S12x2x18944, .f32⟩
  | 101 => ⟨S12x2x18944, .f32⟩
  | 102 => ⟨S12x1x18944, .f32⟩
  | 103 => ⟨S12x18944, .f32⟩
  | 104 => ⟨S12x1x18944, .f32⟩
  | 105 => ⟨S12x18944, .f32⟩
  | 106 => ⟨S12x18944, .f32⟩
  | 107 => ⟨S12x18944, .f32⟩
  | 108 => ⟨S_, .f32⟩
  | 109 => ⟨S12x18944, .f32⟩
  | 110 => ⟨S12x18944, .f32⟩
  | 111 => ⟨S_, .f32⟩
  | 112 => ⟨S12x18944, .f32⟩
  | 113 => ⟨S12x18944, .f32⟩
  | 114 => ⟨S12x18944, .f32⟩
  | 115 => ⟨S12x18944, .f32⟩
  | 116 => ⟨S12x18944, .bf16⟩
  | 117 => ⟨S9472x3584, .i32⟩
  | 118 => ⟨S_, .i32⟩
  | 119 => ⟨S9472x3584, .i32⟩
  | 120 => ⟨S9472x3584, .i32⟩
  | 121 => ⟨S74x3584, .bf16⟩
  | 122 => ⟨S_, .i32⟩
  | 123 => ⟨S9472x3584, .i32⟩
  | 124 => ⟨S9472x3584, .i1⟩
  | 125 => ⟨S_, .i32⟩
  | 126 => ⟨S9472x3584, .i32⟩
  | 127 => ⟨S9472x3584, .i32⟩
  | _ => ⟨S12x1x3584, .bf16⟩

abbrev hbmTy0_1 (i : Nat) : BufTy := match i % 128 with
  | 0 => ⟨S9472x3584, .i32⟩
  | 1 => ⟨S9472x3584, .bf16⟩
  | 2 => ⟨S74x128x3584, .bf16⟩
  | 3 => ⟨S74x1x3584, .bf16⟩
  | 4 => ⟨S74x128x3584, .bf16⟩
  | 5 => ⟨S74x128x3584, .bf16⟩
  | 6 => ⟨S9472x3584, .bf16⟩
  | 7 => ⟨S_, .i32⟩
  | 8 => ⟨S9472x3584, .i32⟩
  | 9 => ⟨S9472x3584, .i32⟩
  | 10 => ⟨S74x3584, .bf16⟩
  | 11 => ⟨S_, .i32⟩
  | 12 => ⟨S9472x3584, .i32⟩
  | 13 => ⟨S9472x3584, .i1⟩
  | 14 => ⟨S_, .i32⟩
  | 15 => ⟨S9472x3584, .i32⟩
  | 16 => ⟨S9472x3584, .i32⟩
  | 17 => ⟨S9472x3584, .i32⟩
  | 18 => ⟨S9472x3584, .bf16⟩
  | 19 => ⟨S74x128x3584, .bf16⟩
  | 20 => ⟨S74x1x3584, .bf16⟩
  | 21 => ⟨S74x128x3584, .bf16⟩
  | 22 => ⟨S74x128x3584, .bf16⟩
  | 23 => ⟨S9472x3584, .bf16⟩
  | 24 => ⟨S12x9472, .bf16⟩
  | 25 => ⟨S12x3584, .f32⟩
  | 26 => ⟨S12x9472, .bf16⟩
  | 27 => ⟨S12x3584, .f32⟩
  | 28 => ⟨S12x3584, .f32⟩
  | 29 => ⟨S12x5x64, .f32⟩
  | 30 => ⟨S12x64, .f32⟩
  | 31 => ⟨S12x1, .f32⟩
  | 32 => ⟨S12x64, .f32⟩
  | 33 => ⟨S12x64, .f32⟩
  | 34 => ⟨S12x64, .bf16⟩
  | 35 => ⟨S12x5x1, .bf16⟩
  | 36 => ⟨S12x1x64, .bf16⟩
  | 37 => ⟨S12x5x64, .bf16⟩
  | 38 => ⟨S12x5x64, .bf16⟩
  | 39 => ⟨S12x5x64, .bf16⟩
  | 40 => ⟨S12x3584, .f32⟩
  | 41 => ⟨S12x3584, .f32⟩
  | 42 => ⟨S12x3584, .f32⟩
  | 43 => ⟨S12x3584, .bf16⟩
  | 44 => ⟨S12x9472, .bf16⟩
  | 45 => ⟨S12x9472, .bf16⟩
  | _ => ⟨S12x1x3584, .bf16⟩

abbrev hbmTy (i : Nat) : BufTy := match i / 128 with
  | 0 => hbmTy0_0 i
  | 1 => hbmTy0_1 i
  | _ => ⟨S12x1x3584, .bf16⟩

abbrev bufTy : (tb : Table) → Fin (tcTables nBuf tb) → BufTy
  | .hbm, ⟨i, _⟩ => hbmTy i
  | _, _ => ⟨S12x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_9 : Ref sig .tc := ⟨.hbm, 108, rfl⟩
abbrev main_v80 : Ref sig .tc := ⟨.hbm, 109, rfl⟩
abbrev main_v81 : Ref sig .tc := ⟨.hbm, 110, rfl⟩
abbrev main_cst_10 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_11 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_12 : Ref sig .tc := ⟨.hbm, 122, rfl⟩
abbrev main_v91 : Ref sig .tc := ⟨.hbm, 123, rfl⟩
abbrev main_v92 : Ref sig .tc := ⟨.hbm, 124, rfl⟩
abbrev main_c_13 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_14 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_15 : Ref sig .tc := ⟨.hbm, 139, rfl⟩
abbrev main_v105 : Ref sig .tc := ⟨.hbm, 140, rfl⟩
abbrev main_v106 : Ref sig .tc := ⟨.hbm, 141, rfl⟩
abbrev main_c_16 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩

abbrev nD : Nat := 1
abbrev τ : Topo := Topo.v7x

variable {F : FTy → Type} [FloatOps F]
-- ==== Proof.Adapters.lean ====
/- What the precondition says of the adapter words: every one of the twelve is one of 0 … 4. -/
module

public import proofs.«01_k».proof.Defs
public import proofs.«01_k».proof.Proof.Gen.Pre_adapters_exist

@[expose] public section

namespace Cert.Adapters

open Idealize.ShloMosaic Cert.Pre_adapters_exist

/-- The printed predicate, all ones, read at each word: the word is below 5 (as a natural number). -/
theorem word_lt {F : FTy → Type} [FloatOps F] (a0 a1 a2 a3 a4 a5 a6 a7 a8 a9 a10 a11)
    (h : (Cert.Pre_adapters_exist.fn (F := F) a0 a1 a2 a3 a4 a5 a6 a7 a8 a9 a10 a11) = fun _ => 1#1) (y : S12.Idx) :
    (a2 y).toNat < 5 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_adapters_exist.fn, andi, cmpi, broadcastInDim, constantI, IntOp.cmpi, andi_ofBool, ofBool_eq_one,
    Bool.and_eq_true] at e
  obtain ⟨hge, hlt⟩ := e
  simp only [BitVec.sle, BitVec.slt, decide_eq_true_eq, BitVec.toInt, BitVec.toNat_ofNat] at hge hlt
  omega

end Cert.Adapters
-- ==== Proof.KernelHyps.lean ====
/- The side conditions the printed body assumes — each row's adapter word names one of the five words of
   `lora_scaling` — follow from the precondition. -/
module

public import proofs.«01_k».proof.Proof.Adapters
public import proofs.«01_k».proof.Proof.Gen.Kernel.Frame.Runs

@[expose] public section

namespace Cert.KernelHyps

open Cert.Kernel Cert.Kernel.Gen
open Idealize.ShloMosaic Idealize.ShloMosaic.TcCoe

variable {F : FTy → Type} [FloatOps F]

/-- The word a point reads at any index of its block of `adapter_idx` is below 5 when the array's words are. -/
theorem iblk_lt (m : (ℓ : Loc nD τ sig) → Buf (Elt F) ℓ) (c : Dev nD)
    (h : ∀ y : S12.Idx, (m ((c : Thread nD τ).loc main_arg2) y : BitVec 32).toNat < 5) (t : Fin cfg0.N) (i : S12.Idx) :
    (iblk m c 0 t i : BitVec 32).toNat < 5 := by
  unfold iblk
  rw [View.read_apply, cast_eq]
  have e : V m c (Pipeline.arrRef spec0 0) = m ((c : Thread nD τ).loc main_arg2) := V_main_arg2 m c
  rw [e]
  exact h _

/-- A word below 5 names one word of a five-word array. -/
theorem off_inb (w : BitVec 32) (h : w.toNat < 5) (a : Fin 1) : (![w.toNat] : Fin 1 → ℕ) a + S1.size a ≤ S5.size a := by
  match a with
  | 0 => show w.toNat + 1 ≤ 5; omega

/-- The precondition gives every assumed side condition. -/
theorem hyps_of_words (m : (ℓ : Loc nD τ sig) → Buf (Elt F) ℓ)
    (h : ∀ (c : Dev nD) (y : S12.Idx), (m ((c : Thread nD τ).loc main_arg2) y : BitVec 32).toNat < 5) : Hyps m := by
  intro c t
  refine ⟨?_, ?_, ?_, ?_, ?_, ?_, ?_, ?_, ?_, ?_, ?_, ?_, ?_, ?_, ?_, ?_, ?_, ?_, ?_, ?_, ?_, ?_, ?_, ?_⟩ <;>
  · intro _ _
    simp only [View.readAt_apply, Memref.IsWhole.read_unread]
    exact off_inb _ (iblk_lt m c (h c) t _)

theorem hyps_of_pre (m : (ℓ : Loc nD τ sig) → Buf (Elt Bits) ℓ) (h : Cert.Pre_Kernel m) : Hyps m :=
  hyps_of_words m fun c => Cert.Adapters.word_lt _ _ _ _ _ _ _ _ _ _ _ _ (h c)

end Cert.KernelHyps
-- ==== Proof.Spec.lean ====
/-
  The mathematics of the block, on extended reals, as plain functions of the arguments: normalisation, the 4-bit
  weights, the adapters' low-rank products, the gated hidden layer, the down projection and the residual. Both
  programs are shown to compute these functions.
-/
module

public import Idealize.ShloMosaic.Lib.Pointwise

@[expose] public section

noncomputable section

namespace Cert.Spec

open Idealize.ShloMosaic

/-- The arguments, by coordinates. `ad b` is the adapter of row `b`. -/
structure Args where
  x : Fin 12 → Fin 3584 → EReal
  gain : Fin 3584 → EReal
  ad : Fin 12 → Fin 5
  cgu : Fin 1792 → Fin 37888 → BitVec 8
  sgu : Fin 28 → Fin 37888 → EReal
  cdn : Fin 9472 → Fin 3584 → BitVec 8
  sdn : Fin 148 → Fin 3584 → EReal
  agu : Fin 5 → Fin 3584 → Fin 128 → EReal
  bgu : Fin 5 → Fin 2 → Fin 64 → Fin 18944 → EReal
  adn : Fin 5 → Fin 18944 → Fin 64 → EReal
  bdn : Fin 5 → Fin 64 → Fin 3584 → EReal
  scl : Fin 5 → EReal

/-- The arguments read off the arrays. -/
def argsOf (x0 : Vec Ideal ⟨3, ![12, 1, 3584]⟩ .bf16) (x1 : Vec Ideal ⟨1, ![3584]⟩ .f32) (x2 : Vec Ideal ⟨1, ![12]⟩ .i32)
    (x3 : Vec Ideal ⟨2, ![1792, 37888]⟩ .i8) (x4 : Vec Ideal ⟨2, ![28, 37888]⟩ .bf16)
    (x5 : Vec Ideal ⟨2, ![9472, 3584]⟩ .i8) (x6 : Vec Ideal ⟨2, ![148, 3584]⟩ .bf16)
    (x7 : Vec Ideal ⟨3, ![5, 3584, 128]⟩ .bf16) (x8 : Vec Ideal ⟨4, ![5, 2, 64, 18944]⟩ .bf16)
    (x9 : Vec Ideal ⟨3, ![5, 18944, 64]⟩ .bf16) (x10 : Vec Ideal ⟨3, ![5, 64, 3584]⟩ .bf16)
    (x11 : Vec Ideal ⟨1, ![5]⟩ .f32) : Args where
  x b k := x0 (ix3 b 0 k)
  gain k := x1 (ix1 k)
  ad b := ⟨(x2 (ix1 b) : BitVec 32).toNat % 5, Nat.mod_lt _ (by decide)⟩
  cgu r n := x3 (ix2 r n)
  sgu g n := x4 (ix2 g n)
  cdn r n := x5 (ix2 r n)
  sdn g n := x6 (ix2 g n)
  agu a k r := x7 (ix3 a k r)
  bgu a t r f := x8 (ix4 a t r f)
  adn a f r := x9 (ix3 a f r)
  bdn a r d := x10 (ix3 a r d)
  scl a := x11 (ix1 a)

/-- The low four bits of a byte, as a signed word. -/
def lowWord (w : BitVec 8) : BitVec 32 := ((w.setWidth 32) <<< 28).sshiftRight 28
/-- The high four bits of a byte, as a signed word. -/
def highWord (w : BitVec 8) : BitVec 32 := ((w.setWidth 32) <<< 24).sshiftRight 28
/-- The weight in a byte's low four bits. -/
def low (w : BitVec 8) : EReal := (FloatOps.sitofp (F := Ideal) .bf16 (lowWord w) : Ideal .bf16)
/-- The weight in a byte's high four bits. -/
def high (w : BitVec 8) : EReal := (FloatOps.sitofp (F := Ideal) .bf16 (highWord w) : Ideal .bf16)

/-- The number of columns, as the programs' constant. -/
def count : EReal := Ideal.ofBits .f32 0x45600000#32
/-- The constant added under the root. -/
def eps : EReal := Ideal.ofBits .f32 0x358637BD#32

/-- One normalised element of a row: the row `x`, the gain `g` of the column. -/
def normAt (x : Fin 3584 → EReal) (g : EReal) (k : Fin 3584) : EReal :=
  x k * Ideal.rsqrt (Ideal.div (∑ l, x l * x l) count + eps) * g

/-- The logistic-gated product. -/
def gated (g u : EReal) : EReal := g * Ideal.logistic g * u

variable (A : Args)

def xn (b : Fin 12) (k : Fin 3584) : EReal := normAt (A.x b) (A.gain k) k

def s (b : Fin 12) (r : Fin 128) : EReal := (∑ k, xn A b k * A.agu (A.ad b) k r) * A.scl (A.ad b)

/-- Weight `r` of the lower half of the up projection's rows, and of the upper half. -/
def wlo (r : Fin 1792) (c : Fin 37888) : EReal := low (A.cgu r c) * A.sgu ⟨r.1 / 128, by omega⟩ c
def whi (r : Fin 1792) (c : Fin 37888) : EReal := high (A.cgu r c) * A.sgu ⟨14 + r.1 / 128, by omega⟩ c

def gu (b : Fin 12) (c : Fin 37888) : EReal :=
  (∑ r : Fin 1792, xn A b ⟨r.1, by omega⟩ * wlo A r c) + ∑ r : Fin 1792, xn A b ⟨1792 + r.1, by omega⟩ * whi A r c

def delta (b : Fin 12) (t : Fin 2) (f : Fin 18944) : EReal :=
  ∑ r : Fin 64, s A b ⟨64 * t.1 + r.1, by omega⟩ * A.bgu (A.ad b) t r f

def h (b : Fin 12) (f : Fin 18944) : EReal :=
  gated (gu A b ⟨f.1, by omega⟩ + delta A b 0 f) (gu A b ⟨18944 + f.1, by omega⟩ + delta A b 1 f)

def dlo (r : Fin 9472) (d : Fin 3584) : EReal := low (A.cdn r d) * A.sdn ⟨r.1 / 128, by omega⟩ d
def dhi (r : Fin 9472) (d : Fin 3584) : EReal := high (A.cdn r d) * A.sdn ⟨74 + r.1 / 128, by omega⟩ d

def y (b : Fin 12) (d : Fin 3584) : EReal :=
  (∑ r : Fin 9472, h A b ⟨r.1, by omega⟩ * dlo A r d) + ∑ r : Fin 9472, h A b ⟨9472 + r.1, by omega⟩ * dhi A r d

def t (b : Fin 12) (r : Fin 64) : EReal := (∑ f, h A b f * A.adn (A.ad b) f r) * A.scl (A.ad b)

def out (b : Fin 12) (d : Fin 3584) : EReal :=
  A.x b d + (y A b d + ∑ r, t A b r * A.bdn (A.ad b) r d)

/-! ## Sums that select one adapter -/

/-- A sum over the adapters of products with 0 or 1 is the one product with 1. -/
theorem sum_onehot {n : ℕ} (a : Fin n) (f : Fin n → EReal) : (∑ k, (if a = k then 1 else 0) * f k) = f a := by
  rw [Finset.sum_eq_single a]
  · simp
  · intro k _ hk; simp [hk.symm]
  · intro h; exact absurd (Finset.mem_univ a) h

/-- The same with a factor on the left of each product and a second sum inside. -/
theorem sum_onehot_right {n : ℕ} {ι : Type} [Fintype ι] (a : Fin n) (f g : Fin n → ι → EReal) :
    (∑ k, ∑ i, f k i * ((if a = k then 1 else 0) * g k i)) = ∑ i, f a i * g a i := by
  rw [Finset.sum_eq_single a]
  · simp
  · intro k _ hk; simp [hk.symm]
  · intro h; exact absurd (Finset.mem_univ a) h

theorem sum_onehot_left {n : ℕ} {ι : Type} [Fintype ι] (a : Fin n) (f : Fin n → ι → EReal) :
    (∑ k, ∑ i, (if a = k then 1 else 0) * f k i) = ∑ i, f a i := by
  have h := sum_onehot_right a (fun _ _ => 1) f
  simpa using h

end Cert.Spec

end
-- ==== Proof.Sums.lean ====
/-
  Sums over blocks: a sum over an index range is the sum over its blocks of the sums over each block.
-/
module

public import Mathlib.Algebra.BigOperators.Fin
public import Mathlib.Logic.Equiv.Fin.Basic

@[expose] public section

namespace Cert.Sums

/-- Summing block by block: `n` blocks of `m`. -/
theorem sum_blocks {M : Type} [AddCommMonoid M] {n m N : ℕ} (h : n * m = N) (f : Fin N → M) :
    ∑ i : Fin n, ∑ j : Fin m, f ⟨m * i.1 + j.1, by
      have hi := i.2; have hj := j.2
      calc m * i.1 + j.1 < m * i.1 + m := by omega
        _ = m * (i.1 + 1) := (Nat.mul_succ m i.1).symm
        _ ≤ m * n := Nat.mul_le_mul_left _ hi
        _ = N := by rw [Nat.mul_comm]; exact h⟩ = ∑ k, f k := by
  subst h
  rw [← finProdFinEquiv.sum_comp f, Fintype.sum_prod_type]
  refine Finset.sum_congr rfl fun i _ => Finset.sum_congr rfl fun j _ => congrArg f (Fin.ext ?_)
  simp [finProdFinEquiv, Nat.add_comm]

/-- A sum over an even range, by pairs. -/
theorem sum_pairs {M : Type} [AddCommMonoid M] {n N : ℕ} (h : n * 2 = N) (f : Fin N → M) :
    ∑ k, f k = ∑ r : Fin n, (f ⟨2 * r.1, by omega⟩ + f ⟨2 * r.1 + 1, by omega⟩) := by
  rw [← sum_blocks h f]
  refine Finset.sum_congr rfl fun i _ => ?_
  rw [Fin.sum_univ_two]
  rfl

/-- A sum over a doubled range is the sum over its lower half plus the sum over its upper half. -/
theorem sum_halves {M : Type} [AddCommMonoid M] {n N : ℕ} (h : 2 * n = N) (f : Fin N → M) :
    ∑ k, f k = (∑ r : Fin n, f ⟨r.1, by omega⟩) + ∑ r : Fin n, f ⟨n + r.1, by omega⟩ := by
  rw [← sum_blocks h f, Fin.sum_univ_two]
  congr 1 <;> refine Finset.sum_congr rfl fun r _ => congrArg f (Fin.ext ?_) <;> simp

end Cert.Sums

end
-- ==== Proof.Vocab.lean ====
/-
  The kernel's tile computations under names, each with what its elements are: the unpacked weights of a group of rows,
  one group's share of the up projection, the low-rank share, and the gated tile.
-/
module

public import proofs.«01_k».proof.Proof.Gen.KernelIdeal.Skeleton
public import proofs.«01_k».proof.Proof.Spec
public import proofs.«01_k».proof.Proof.Sums
public import Idealize.ShloMosaic.Lib.Pointwise
public import Idealize.ShloMosaic.Lib.Pipeline.ValueKit

@[expose] public section

set_option maxRecDepth 16384

noncomputable section

namespace Cert.KernelIdeal.Vocab

open Cert.KernelIdeal Cert.KernelIdeal.Gen Idealize.ShloMosaic

/-- The two bytes' nibbles of 128 rows of codes, interleaved into 256 rows of weights. -/
def weights (c1 c2 : Vec Ideal S128x256 .i8) : FVec Ideal S256x256 .bf16 :=
  sitofp .bf16 (shapeCast S256x256 (concatenate S128x2x256 1
    [⟨S128x1x256, shapeCast S128x1x256 (shrsi (shli (extui 32 c1 natLt_8_32) (broadcast S128x256 28#32)) (broadcast S128x256 28#32)) shapeCasts_S128x256_S128x1x256⟩,
     ⟨S128x1x256, shapeCast S128x1x256 (shrsi (shli (extui 32 c2 natLt_8_32) (broadcast S128x256 24#32)) (broadcast S128x256 28#32)) shapeCasts_S128x256_S128x1x256⟩]
    concatenates_S128x1x256_S128x1x256_S128x2x256_d1) shapeCasts_S128x2x256_S256x256)

/-- A pair of scale rows, repeated over the 128 pairs of rows. -/
def spread (p : FVec Ideal S1x2x256 .bf16) : FVec Ideal S256x256 .bf16 :=
  shapeCast S256x256 (broadcastTo S128x2x256 (shapeCast S1x2x256 p shapeCasts_S1x2x256_S1x2x256) broadcasts_S1x2x256_S128x2x256) shapeCasts_S128x2x256_S256x256

def dequant (p : FVec Ideal S1x2x256 .bf16) (c1 c2 : Vec Ideal S128x256 .i8) : FVec Ideal S256x256 .bf16 :=
  mulf (weights c1 c2) (spread p)

def pairRow (lo hi : Vec Ideal S1x256 .bf16) : FVec Ideal S1x2x256 .bf16 :=
  concatenate S1x2x256 1 [⟨S1x1x256, shapeCast S1x1x256 lo shapeCasts_S1x256_S1x1x256⟩, ⟨S1x1x256, shapeCast S1x1x256 hi shapeCasts_S1x256_S1x1x256⟩]
    concatenates_S1x1x256_S1x1x256_S1x2x256_d1

/-- Adding a product to an accumulator. -/
def addDot (acc : FVec Ideal S16x256 .f32) (x : Vec Ideal S16x256 .bf16) (w : FVec Ideal S256x256 .bf16) : FVec Ideal S16x256 .f32 :=
  addf acc (matmul (φ₁ := .bf16) (φ₂ := .bf16) dot_S16x256_S256x256_S16x256_1_0_0_1_n_n none x w (constant S16x256 .f32 0x00000000#32))

theorem dequant_even (p : FVec Ideal S1x2x256 .bf16) (c1 c2 : Vec Ideal S128x256 .i8) (r : Fin 128) (l : Fin 256) :
    dequant p c1 c2 (ix2 ⟨2 * r.1, by omega⟩ l) = Spec.low (c1 (ix2 r l)) * p (ix3 0 0 l) := by
  have h0 : 2 * r.1 % 2 = 0 := by omega
  have h1 : 2 * r.1 / 2 = r.1 := by omega
  pointwise [dequant, weights, spread]
  simp only [h0, h1, Nat.zero_lt_one, dif_pos]
  rfl

theorem dequant_odd (p : FVec Ideal S1x2x256 .bf16) (c1 c2 : Vec Ideal S128x256 .i8) (r : Fin 128) (l : Fin 256) :
    dequant p c1 c2 (ix2 ⟨2 * r.1 + 1, by omega⟩ l) = Spec.high (c2 (ix2 r l)) * p (ix3 0 1 l) := by
  have h0 : (2 * r.1 + 1) % 2 = 1 := by omega
  have h1 : (2 * r.1 + 1) / 2 = r.1 := by omega
  pointwise [dequant, weights, spread]
  simp only [h0, h1, Nat.lt_irrefl, dif_neg, not_false_eq_true]
  rfl

theorem pairRow_lo (lo hi : Vec Ideal S1x256 .bf16) (l : Fin 256) : pairRow lo hi (ix3 0 0 l) = lo (ix2 0 l) := by
  pointwise [pairRow]

theorem pairRow_hi (lo hi : Vec Ideal S1x256 .bf16) (l : Fin 256) : pairRow lo hi (ix3 0 1 l) = hi (ix2 0 l) := by
  pointwise [pairRow]

theorem addDot_at (acc : FVec Ideal S16x256 .f32) (x : Vec Ideal S16x256 .bf16) (w : FVec Ideal S256x256 .bf16) (b : Fin 16) (l : Fin 256) :
    addDot acc x w (ix2 b l) = acc (ix2 b l) + ∑ k, x (ix2 b k) * w (ix2 k l) := by
  pointwise [addDot]

/-- The low-rank share of a tile: the rows' coefficients times the adapters' columns. -/
def loraDot (m : Vec Ideal S1x16x320 .bf16) (w : Vec Ideal S5x1x64x256 .bf16) : FVec Ideal S16x256 .f32 :=
  matmul (φ₁ := .bf16) (φ₂ := .bf16) dot_S16x320_S320x256_S16x256_1_0_0_1_n_n none (shapeCast S16x320 m shapeCasts_S1x16x320_S16x320)
    (shapeCast S320x256 (shapeCast S5x64x256 w shapeCasts_S5x1x64x256_S5x64x256) shapeCasts_S5x64x256_S320x256)
    (constant S16x256 .f32 0x00000000#32)

theorem loraDot_at (m : Vec Ideal S1x16x320 .bf16) (w : Vec Ideal S5x1x64x256 .bf16) (b : Fin 16) (l : Fin 256) :
    loraDot m w (ix2 b l) = ∑ n : Fin 5, ∑ r : Fin 64, m (ix3 0 b ⟨64 * n.1 + r.1, by omega⟩) * w (ix4 n 0 r l) := by
  pointwise [loraDot]
  rw [← Sums.sum_blocks (n := 5) (m := 64) rfl]
  refine Finset.sum_congr rfl fun n _ => Finset.sum_congr rfl fun r _ => ?_
  have h0 : (64 * n.1 + r.1) / 64 = n.1 := by omega
  have h1 : (64 * n.1 + r.1) % 64 = r.1 := by omega
  simp only [h0, h1]

/-! ## The up projection's tile -/

/-- The 128 rows of codes of group `g`. -/
def codesOf (c : Vec Ideal S1792x256 .i8) (g : Fin 14) : Vec Ideal S128x256 .i8 :=
  View.ld c (Rect.unit (s := S1792x256) ![128 * g.1, 0] S128x256.size (by fin_cases g <;> decide))
/-- Row `g` of the scales. -/
def scaleOf (s : Vec Ideal S28x256 .bf16) (g : Fin 28) : Vec Ideal S1x256 .bf16 :=
  View.ld s (Rect.unit (s := S28x256) ![g.1, 0] S1x256.size (by fin_cases g <;> decide))
/-- The 256 interleaved columns of group `g`. -/
def colsOf (x : Vec Ideal S16x3584 .bf16) (g : Fin 14) : Vec Ideal S16x256 .bf16 :=
  View.ld x (Rect.unit (s := S16x3584) ![0, 256 * g.1] S16x256.size (by fin_cases g <;> decide))
def coefOf (m : Vec Ideal S2x16x320 .bf16) (half : Fin 2) : Vec Ideal S1x16x320 .bf16 :=
  View.ld m (Rect.unit (s := S2x16x320) ![half.1, 0, 0] S1x16x320.size (by fin_cases half <;> decide))
def loraOf (w : Vec Ideal S5x2x64x256 .bf16) (half : Fin 2) : Vec Ideal S5x1x64x256 .bf16 :=
  View.ld w (Rect.unit (s := S5x2x64x256) ![0, half.1, 0, 0] S5x1x64x256.size (by fin_cases half <;> decide))

theorem codesOf_at (c : Vec Ideal S1792x256 .i8) (g : Fin 14) (r : Fin 128) (l : Fin 256) :
    codesOf c g (ix2 r l) = c (ix2 ⟨128 * g.1 + r.1, by omega⟩ l) :=
  View.ld_unit_apply_of _ _ _ _ _ _ (fun a => by fin_cases a <;> simp [ix2])
theorem scaleOf_at (s : Vec Ideal S28x256 .bf16) (g : Fin 28) (l : Fin 256) : scaleOf s g (ix2 0 l) = s (ix2 g l) :=
  View.ld_unit_apply_of _ _ _ _ _ _ (fun a => by fin_cases a <;> simp [ix2])
theorem colsOf_at (x : Vec Ideal S16x3584 .bf16) (g : Fin 14) (b : Fin 16) (k : Fin 256) :
    colsOf x g (ix2 b k) = x (ix2 b ⟨256 * g.1 + k.1, by omega⟩) :=
  View.ld_unit_apply_of _ _ _ _ _ _ (fun a => by fin_cases a <;> simp [ix2])
theorem coefOf_at (m : Vec Ideal S2x16x320 .bf16) (half : Fin 2) (b : Fin 16) (k : Fin 320) :
    coefOf m half (ix3 0 b k) = m (ix3 half b k) :=
  View.ld_unit_apply_of _ _ _ _ _ _ (fun a => by fin_cases a <;> simp [ix3])
theorem loraOf_at (w : Vec Ideal S5x2x64x256 .bf16) (half : Fin 2) (n : Fin 5) (r : Fin 64) (l : Fin 256) :
    loraOf w half (ix4 n 0 r l) = w (ix4 n half r l) :=
  View.ld_unit_apply_of _ _ _ _ _ _ (fun a => by fin_cases a <;> simp [ix4])

/-- Adding group `g`'s share. -/
def addGroup (xi : Vec Ideal S16x3584 .bf16) (c : Vec Ideal S1792x256 .i8) (s : Vec Ideal S28x256 .bf16) (g : Fin 14)
    (acc : FVec Ideal S16x256 .f32) : FVec Ideal S16x256 .f32 :=
  addDot acc (colsOf xi g) (dequant (pairRow (scaleOf s ⟨g.1, by omega⟩) (scaleOf s ⟨14 + g.1, by omega⟩)) (codesOf c g) (codesOf c g))

/-- The low-rank share and the first `n` groups' shares. -/
def gateUpTo (xi : Vec Ideal S16x3584 .bf16) (m : Vec Ideal S2x16x320 .bf16) (c : Vec Ideal S1792x256 .i8)
    (s : Vec Ideal S28x256 .bf16) (w : Vec Ideal S5x2x64x256 .bf16) (half : Fin 2) : (n : ℕ) → n ≤ 14 → FVec Ideal S16x256 .f32
  | 0, _ => loraDot (coefOf m half) (loraOf w half)
  | n + 1, h => addGroup xi c s ⟨n, h⟩ (gateUpTo xi m c s w half n (Nat.le_of_succ_le h))

def gateUp (xi : Vec Ideal S16x3584 .bf16) (m : Vec Ideal S2x16x320 .bf16) (c : Vec Ideal S1792x256 .i8)
    (s : Vec Ideal S28x256 .bf16) (w : Vec Ideal S5x2x64x256 .bf16) (half : Fin 2) : FVec Ideal S16x256 .f32 :=
  gateUpTo xi m c s w half 14 (Nat.le_refl _)

/-- The gated tile. -/
def hidden (xi : Vec Ideal S16x3584 .bf16) (m : Vec Ideal S2x16x320 .bf16) (cg cu : Vec Ideal S1792x256 .i8)
    (sg su : Vec Ideal S28x256 .bf16) (w : Vec Ideal S5x2x64x256 .bf16) : FVec Ideal S16x256 .bf16 :=
  truncf .bf16 (mulf (mulf (gateUp xi m cg sg w 0) (logistic (gateUp xi m cg sg w 0))) (gateUp xi m cu su w 1)) bitsLt_bf16_f32

/-- The tile's first twelve rows, as stored. -/
def hiddenRows (h : FVec Ideal S16x256 .bf16) : FVec Ideal S12x256 .bf16 :=
  extractStridedSlice S12x256 ![0, 0] h slices_S16x256_o0_0_S12x256

theorem hidden_at (xi : Vec Ideal S16x3584 .bf16) (m : Vec Ideal S2x16x320 .bf16) (cg cu : Vec Ideal S1792x256 .i8)
    (sg su : Vec Ideal S28x256 .bf16) (w : Vec Ideal S5x2x64x256 .bf16) (b : Fin 16) (l : Fin 256) :
    hidden xi m cg cu sg su w (ix2 b l) = Spec.gated (gateUp xi m cg sg w 0 (ix2 b l)) (gateUp xi m cu su w 1 (ix2 b l)) := by
  pointwise [hidden, Spec.gated]

theorem hiddenRows_at (h : FVec Ideal S16x256 .bf16) (b : Fin 12) (l : Fin 256) :
    hiddenRows h (ix2 b l) = h (ix2 ⟨b.1, by omega⟩ l) := by
  pointwise [hiddenRows]

end Cert.KernelIdeal.Vocab

end
-- ==== Proof.Down.lean ====
/-
  The down projection's tile and the low-rank coefficients of the hidden layer, under names, each with what its
  elements are.
-/
module

public import proofs.«01_k».proof.Proof.Vocab

@[expose] public section

set_option maxRecDepth 16384

noncomputable section

namespace Cert.KernelIdeal.Vocab

open Cert.KernelIdeal Cert.KernelIdeal.Gen Idealize.ShloMosaic

/-! ## Two tiles with their columns interleaved -/

/-- Two tiles of 128 columns, side by side, with their columns reordered by a matrix. -/
def reorder (a b : FVec Ideal S16x128 .bf16) (p : Vec Ideal S256x256 .bf16) : FVec Ideal S16x256 .bf16 :=
  truncf .bf16 (matmul (φ₁ := .bf16) (φ₂ := .bf16) dot_S16x256_S256x256_S16x256_1_0_0_1_n_n none
    (concatenate S16x256 1 [⟨S16x128, a⟩, ⟨S16x128, b⟩] concatenates_S16x128_S16x128_S16x256_d1) p
    (constant S16x256 .f32 0x00000000#32)) bitsLt_bf16_f32

/-- The matrix that interleaves: column `k` picks `k / 2` when `k` is even and `128 + k / 2` when it is odd. -/
def IsPerm (p : Vec Ideal S256x256 .bf16) : Prop :=
  ∀ i k : Fin 256, p (ix2 i k) = if i.1 = (if k.1 % 2 = 0 then k.1 / 2 else 128 + k.1 / 2) then (1 : EReal) else 0

/-- The matrix as loaded, whole. -/
def wholePerm (p : Vec Ideal S256x256 .bf16) : Vec Ideal S256x256 .bf16 :=
  View.ld p (Rect.unit (s := S256x256) ![0, 0] S256x256.size inb_S256x256_S256x256_0_0)

theorem wholePerm_isPerm {p : Vec Ideal S256x256 .bf16} (hp : IsPerm p) : IsPerm (wholePerm p) := fun i k => by
  refine Eq.trans ?_ (hp i k)
  exact View.ld_unit_apply_of _ _ _ _ _ _ (fun a => by fin_cases a <;> simp [ix2])

theorem reorder_even {p : Vec Ideal S256x256 .bf16} (hp : IsPerm p) (a b : FVec Ideal S16x128 .bf16) (r : Fin 16) (k : Fin 128) :
    reorder a b p (ix2 r ⟨2 * k.1, by omega⟩) = a (ix2 r k) := by
  have h1 : ∀ x : Fin 128, p (ix2 ⟨x.1, by omega⟩ ⟨2 * k.1, by omega⟩) = if k = x then (1 : EReal) else 0 := fun x => by
    rw [hp]; refine if_congr ?_ rfl rfl; rw [Fin.ext_iff, if_pos (by show 2 * k.1 % 2 = 0; omega)]; show x.1 = 2 * k.1 / 2 ↔ _; omega
  have h2 : ∀ x : Fin 128, p (ix2 ⟨128 + x.1, by omega⟩ ⟨2 * k.1, by omega⟩) = (0 : EReal) := fun x => by
    rw [hp, if_neg]; rw [if_pos (by show 2 * k.1 % 2 = 0; omega)]; show ¬ 128 + x.1 = 2 * k.1 / 2; omega
  pointwise [reorder]
  simp only [h1, h2, mul_zero, Finset.sum_const_zero, add_zero, mul_ite, mul_one, Finset.sum_ite_eq, Finset.mem_univ, if_true]

theorem reorder_odd {p : Vec Ideal S256x256 .bf16} (hp : IsPerm p) (a b : FVec Ideal S16x128 .bf16) (r : Fin 16) (k : Fin 128) :
    reorder a b p (ix2 r ⟨2 * k.1 + 1, by omega⟩) = b (ix2 r k) := by
  have h1 : ∀ x : Fin 128, p (ix2 ⟨x.1, by omega⟩ ⟨2 * k.1 + 1, by omega⟩) = (0 : EReal) := fun x => by
    rw [hp, if_neg]; rw [if_neg (by show ¬ (2 * k.1 + 1) % 2 = 0; omega)]; show ¬ x.1 = 128 + (2 * k.1 + 1) / 2; omega
  have h2 : ∀ x : Fin 128, p (ix2 ⟨128 + x.1, by omega⟩ ⟨2 * k.1 + 1, by omega⟩) = if k = x then (1 : EReal) else 0 := fun x => by
    rw [hp]; refine if_congr ?_ rfl rfl; rw [Fin.ext_iff, if_neg (by show ¬ (2 * k.1 + 1) % 2 = 0; omega)]
    show 128 + x.1 = 128 + (2 * k.1 + 1) / 2 ↔ _; omega
  pointwise [reorder]
  simp only [h1, h2, mul_zero, Finset.sum_const_zero, zero_add, mul_ite, mul_one, Finset.sum_ite_eq, Finset.mem_univ, if_true]

/-- The first and the last 128 columns of a tile. -/
def firstCols (h : FVec Ideal S16x256 .bf16) : FVec Ideal S16x128 .bf16 := extractStridedSlice S16x128 ![0, 0] h slices_S16x256_o0_0_S16x128
def lastCols (h : FVec Ideal S16x256 .bf16) : FVec Ideal S16x128 .bf16 := extractStridedSlice S16x128 ![0, 128] h slices_S16x256_o0_128_S16x128

theorem firstCols_at (h : FVec Ideal S16x256 .bf16) (b : Fin 16) (k : Fin 128) : firstCols h (ix2 b k) = h (ix2 b ⟨k.1, by omega⟩) := by
  pointwise [firstCols]
theorem lastCols_at (h : FVec Ideal S16x256 .bf16) (b : Fin 16) (k : Fin 128) : lastCols h (ix2 b k) = h (ix2 b ⟨128 + k.1, by omega⟩) := by
  pointwise [lastCols]

/-! ## The down projection's tile -/

/-- The pair of scale rows of group `c` of grid point `i`. -/
def scalePair (p : Vec Ideal S74x2x3584 .bf16) (i : grid0.Coords) (c : Fin 2) : Vec Ideal S1x2x3584 .bf16 :=
  View.ld p (Rect.unit (s := S74x2x3584) (k0_off13 i (BitVec.ofNat 32 c.val)) S1x2x3584.size (k0_off13_inb i c))

theorem scalePair_at (p : Vec Ideal S74x2x3584 .bf16) (i : grid0.Coords) (c : Fin 2) (e : Fin 2) (d : Fin 3584)
    (hi : 2 * (i 0).val + c.val < 74) : scalePair p i c (ix3 0 e d) = p (ix3 ⟨2 * (i 0).val + c.val, hi⟩ e d) :=
  View.ld_unit_apply_of _ _ _ _ _ _ (fun a => by have h := congrFun (k0_off13_eq i c) a; fin_cases a <;> simp [ix3] at h ⊢ <;> omega)

/-- Columns `256 n …` of a pair of scale rows. -/
def pairCols (p : Vec Ideal S1x2x3584 .bf16) (n : Fin 14) : FVec Ideal S1x2x256 .bf16 :=
  extractStridedSlice S1x2x256 ![0, 0, 256 * n.1] p (by fin_cases n <;> decide)

theorem pairCols_at (p : Vec Ideal S1x2x3584 .bf16) (n : Fin 14) (e : Fin 2) (l : Fin 256) :
    pairCols p n (ix3 0 e l) = p (ix3 0 e ⟨256 * n.1 + l.1, by omega⟩) := by
  pointwise [pairCols]

/-- 128 rows and 256 columns of the down codes. -/
def downCodes (c : Vec Ideal S256x3584 .i8) (h : Fin 2) (n : Fin 14) : Vec Ideal S128x256 .i8 :=
  View.ld c (Rect.unit (s := S256x3584) ![128 * h.1, 256 * n.1] S128x256.size (by fin_cases h <;> fin_cases n <;> decide))

theorem downCodes_at (c : Vec Ideal S256x3584 .i8) (h : Fin 2) (n : Fin 14) (r : Fin 128) (l : Fin 256) :
    downCodes c h n (ix2 r l) = c (ix2 ⟨128 * h.1 + r.1, by omega⟩ ⟨256 * n.1 + l.1, by omega⟩) :=
  View.ld_unit_apply_of _ _ _ _ _ _ (fun a => by fin_cases a <;> simp [ix2])

/-- The rectangle of tile `n` of 256 columns. -/
def tileRect (n : Fin 14) : Rect S16x3584 := Rect.unit (s := S16x3584) ![0, 256 * n.1] S16x256.size (by fin_cases n <;> decide)

/-- One tile of the down projection after a grid point: what was there and the two groups' products. -/
def downTile (acc : Vec Ideal S16x256 .f32) (x0 x1 : FVec Ideal S16x256 .bf16) (p0 p1 : Vec Ideal S1x2x3584 .bf16) (c : Vec Ideal S256x3584 .i8)
    (n : Fin 14) : FVec Ideal S16x256 .f32 :=
  shapeCast S16x256 (addDot (addDot acc x0 (dequant (pairCols p0 n) (downCodes c 0 n) (downCodes c 0 n))) x1
    (dequant (pairCols p1 n) (downCodes c 1 n) (downCodes c 1 n))) shapeCasts_S16x256_S16x256

/-! ## The low-rank coefficients of the hidden layer -/

def laneRect (n : Fin 5) : Rect S5x16x64 := Rect.unit (s := S5x16x64) ![n.1, 0, 0] S1x16x64.size (by fin_cases n <;> decide)

def adapterRows (a : Vec Ideal S5x256x64 .bf16) (n : Fin 5) : Vec Ideal S1x256x64 .bf16 :=
  View.ld a (Rect.unit (s := S5x256x64) ![n.1, 0, 0] S1x256x64.size (by fin_cases n <;> decide))

theorem adapterRows_at (a : Vec Ideal S5x256x64 .bf16) (n : Fin 5) (k : Fin 256) (r : Fin 64) :
    adapterRows a n (ix3 0 k r) = a (ix3 n k r) :=
  View.ld_unit_apply_of _ _ _ _ _ _ (fun a => by fin_cases a <;> simp [ix3])

/-- One adapter's coefficients after a grid point: what was there and the two tiles' products. -/
def coefTile (acc : Vec Ideal S1x16x64 .f32) (h0 h1 : FVec Ideal S16x256 .bf16) (a0 a1 : Vec Ideal S5x256x64 .bf16) (n : Fin 5) :
    FVec Ideal S1x16x64 .f32 :=
  shapeCast S1x16x64 (addf (shapeCast S16x64 acc shapeCasts_S1x16x64_S16x64)
    (addf
      (matmul (φ₁ := .bf16) (φ₂ := .bf16) dot_S16x256_S256x64_S16x64_1_0_0_1_n_n none h0
        (shapeCast S256x64 (adapterRows a0 n) shapeCasts_S1x256x64_S256x64) (constant S16x64 .f32 0x00000000#32))
      (matmul (φ₁ := .bf16) (φ₂ := .bf16) dot_S16x256_S256x64_S16x64_1_0_0_1_n_n none h1
        (shapeCast S256x64 (adapterRows a1 n) shapeCasts_S1x256x64_S256x64) (constant S16x64 .f32 0x00000000#32))))
    shapeCasts_S16x64_S1x16x64

theorem coefTile_at (acc : Vec Ideal S1x16x64 .f32) (h0 h1 : FVec Ideal S16x256 .bf16) (a0 a1 : Vec Ideal S5x256x64 .bf16) (n : Fin 5)
    (b : Fin 16) (r : Fin 64) :
    coefTile acc h0 h1 a0 a1 n (ix3 0 b r)
      = acc (ix3 0 b r) + ((∑ k, h0 (ix2 b k) * a0 (ix3 n k r)) + ∑ k, h1 (ix2 b k) * a1 (ix3 n k r)) := by
  pointwise [coefTile]
  simp only [adapterRows_at]

/-- A tile of the down projection at an element, its sums over the 128 pairs of rows. -/
theorem downTile_at (acc : Vec Ideal S16x256 .f32) (x0 x1 : FVec Ideal S16x256 .bf16) (p0 p1 : Vec Ideal S1x2x3584 .bf16) (c : Vec Ideal S256x3584 .i8)
    (n : Fin 14) (b : Fin 16) (l : Fin 256) :
    downTile acc x0 x1 p0 p1 c n (ix2 b l) = (acc (ix2 b l)
      + ∑ r : Fin 128, (x0 (ix2 b ⟨2 * r.1, by omega⟩) * (Spec.low (c (ix2 ⟨r.1, by omega⟩ ⟨256 * n.1 + l.1, by omega⟩)) * p0 (ix3 0 0 ⟨256 * n.1 + l.1, by omega⟩))
          + x0 (ix2 b ⟨2 * r.1 + 1, by omega⟩) * (Spec.high (c (ix2 ⟨r.1, by omega⟩ ⟨256 * n.1 + l.1, by omega⟩)) * p0 (ix3 0 1 ⟨256 * n.1 + l.1, by omega⟩))))
      + ∑ r : Fin 128, (x1 (ix2 b ⟨2 * r.1, by omega⟩) * (Spec.low (c (ix2 ⟨128 + r.1, by omega⟩ ⟨256 * n.1 + l.1, by omega⟩)) * p1 (ix3 0 0 ⟨256 * n.1 + l.1, by omega⟩))
          + x1 (ix2 b ⟨2 * r.1 + 1, by omega⟩) * (Spec.high (c (ix2 ⟨128 + r.1, by omega⟩ ⟨256 * n.1 + l.1, by omega⟩)) * p1 (ix3 0 1 ⟨256 * n.1 + l.1, by omega⟩))) := by
  have e : downTile acc x0 x1 p0 p1 c n (ix2 b l) = addDot (addDot acc x0 (dequant (pairCols p0 n) (downCodes c 0 n) (downCodes c 0 n))) x1
    (dequant (pairCols p1 n) (downCodes c 1 n) (downCodes c 1 n)) (ix2 b l) := by
    pointwise [downTile]
  rw [e, addDot_at, addDot_at, Sums.sum_pairs (n := 128) (N := 256) rfl, Sums.sum_pairs (n := 128) (N := 256) rfl]
  simp only [dequant_even, dequant_odd, downCodes_at, pairCols_at, Fin.val_zero, Fin.val_one, Nat.mul_zero, Nat.mul_one, Nat.zero_add]

end Cert.KernelIdeal.Vocab

end
-- ==== Proof.Init.lean ====
/-
  What the first grid point computes, under names: the residual rows, the normalised rows, the interleaving matrix, the
  interleaved rows, the low-rank coefficients of the up projection and the paired scales; and the accumulators' tiles.
-/
module

public import proofs.«01_k».proof.Proof.Down

@[expose] public section

set_option maxRecDepth 16384

noncomputable section

namespace Cert.KernelIdeal.Vocab

open Cert.KernelIdeal Cert.KernelIdeal.Gen Idealize.ShloMosaic

/-! ## The rows -/

/-- The twelve rows over sixteen rows of zeros. -/
def residual (x2 : Vec Ideal S12x3584 .bf16) : Vec Ideal S16x3584 .f32 :=
  View.canon (Val := Elt Ideal) [⟨Rect.unit (s := S16x3584) ![0, 0] S12x3584.size inb_S16x3584_S12x3584_0_0,
      k0_pay13 (k0_pay12 (View.ld x2 (Rect.unit (s := S12x3584) ![0, 0] S12x3584.size inb_S12x3584_S12x3584_0_0)))⟩,
    ⟨Rect.unit (s := S16x3584) ![0, 0] S16x3584.size inb_S16x3584_S16x3584_0_0, k0_pay11 (F := Ideal)⟩]

/-- Rows as loaded, whole. -/
def wholeRows (x : Vec Ideal S16x3584 .f32) : Vec Ideal S16x3584 .f32 :=
  View.ld x (Rect.unit (s := S16x3584) ![0, 0] S16x3584.size inb_S16x3584_S16x3584_0_0)

/-- The normalised rows. -/
def normed (x2 : Vec Ideal S12x3584 .bf16) (x3 : Vec Ideal S1x3584 .f32) : FVec Ideal S16x3584 .bf16 :=
  k0_pay14 (wholeRows (residual x2))
    (View.ld x3 (Rect.unit (s := S1x3584) ![0, 0] S1x3584.size inb_S1x3584_S1x3584_0_0))

def normedRows (n : FVec Ideal S16x3584 .bf16) : FVec Ideal S12x3584 .bf16 :=
  extractStridedSlice S12x3584 ![0, 0] n slices_S16x3584_o0_0_S12x3584

/-- The interleaving matrix. -/
def initPerm : FVec Ideal S256x256 .bf16 :=
  k0_pay9 (iota .tc S256x256 32 [0] iota_S256x256_d0_w32) (iota .tc S256x256 32 [1] iota_S256x256_d1_w32) k0_pay6 k0_pay7 2#32 k0_pay8

def storedPerm : Vec Ideal S256x256 .bf16 :=
  View.canon (Val := Elt Ideal) [⟨Rect.unit (s := S256x256) ![0, 0] S256x256.size inb_S256x256_S256x256_0_0, shapeCast S256x256 initPerm shapeCasts_S256x256_S256x256⟩]

/-- 128 columns of the normalised rows. -/
def sliceCols (n : FVec Ideal S16x3584 .bf16) (o : Fin 28) : FVec Ideal S16x128 .bf16 :=
  extractStridedSlice S16x128 ![0, 128 * o.1] n (by fin_cases o <;> decide)

/-- The interleaved columns of group `g`. -/
def interleaved (n : FVec Ideal S16x3584 .bf16) (p : Vec Ideal S256x256 .bf16) (g : Fin 14) : FVec Ideal S16x256 .bf16 :=
  shapeCast S16x256 (reorder (sliceCols n ⟨g.1, by omega⟩) (sliceCols n ⟨14 + g.1, by omega⟩) p) shapeCasts_S16x256_S16x256

def storedRows (x2 : Vec Ideal S12x3584 .bf16) (x3 : Vec Ideal S1x3584 .f32) : Vec Ideal S16x3584 .bf16 :=
  View.canon (Val := Elt Ideal) (List.ofFn fun k : Fin 14 => ⟨tileRect ⟨13 - k.1, by omega⟩, interleaved (normed x2 x3) initPerm ⟨13 - k.1, by omega⟩⟩)

/-! ## The low-rank coefficients -/

/-- Word `b` of the rows' adapters. -/
def wordOf (x0 : Vec Ideal S12 .i32) (b : Fin 12) : Elt Ideal .i32 :=
  View.ld x0 (Rect.unit (s := S12) ![b.1] S1.size (by fin_cases b <;> decide)) (Shape.Idx.first (numel1_S1.symm ▸ Nat.one_pos))

/-- Element `n` of the adapters' factors. -/
def pick (x1 : Vec Ideal S5 .f32) (n : ℕ) : Elt Ideal .f32 := if h : n < 5 then x1 (ix1 ⟨n, h⟩) else (0 : EReal)

/-- The load of a whole reference, as the kernel's body has it. -/
theorem readAt_pick {κ : Kind} {sp : Space} (mr : Memref sig κ sp S5 .f32) (hm : mr.IsWhole) (x1 : Vec Ideal S5 .f32) (R : LoadRect S5)
    (x : R.shape.Idx) : mr.view.readAt (Elt Ideal) R (hm.unread x1) x = pick x1 (R.off 0 + R.stride 0 * (x 0).val) := by
  have h0 : R.off 0 + R.stride 0 * (x 0).val < 5 := (R.idx x 0).isLt
  rw [View.readAt_apply, hm.read_unread, pick, dif_pos h0]
  refine congrArg x1 (funext fun a => Fin.ext ?_)
  fin_cases a
  rfl

def rowWord (x0 : Vec Ideal S12 .i32) : IVec S16x1 32 :=
  k0_pay34 (F := Ideal) (iota .tc S16x1 32 [0] iota_S16x1_d0_w32)
    (k0_pay33 (F := Ideal) (wordOf x0 0) (wordOf x0 1) (wordOf x0 2) (wordOf x0 3) (wordOf x0 4)) 5#32
    (wordOf x0 5) (wordOf x0 6) (wordOf x0 7) (wordOf x0 8) (wordOf x0 9) (wordOf x0 10) (wordOf x0 11)

/-- Row `b`'s factor. -/
def factorOf (x0 : Vec Ideal S12 .i32) (x1 : Vec Ideal S5 .f32) (b : Fin 12) : Elt Ideal .f32 :=
  pick x1 (BitVec.toNat (Scalar.indexCast (wordOf x0 b)))

def rowFactor (x0 : Vec Ideal S12 .i32) (x1 : Vec Ideal S5 .f32) : FVec Ideal S16x1 .f32 :=
  k0_pay41 (iota .tc S16x1 32 [0] iota_S16x1_d0_w32)
    (k0_pay38 (iota .tc S16x1 32 [0] iota_S16x1_d0_w32) k0_pay35 k0_pay36 (k0_pay37 (factorOf x0 x1 0)) (factorOf x0 x1 1) (factorOf x0 x1 2)
      (factorOf x0 x1 3) (factorOf x0 x1 4) (factorOf x0 x1 5))
    (k0_pay39 (iota .tc S16x1 32 [0] iota_S16x1_d0_w32)) (k0_pay40 (factorOf x0 x1 6)) (factorOf x0 x1 7) (factorOf x0 x1 8) (factorOf x0 x1 9)
    (factorOf x0 x1 10) (factorOf x0 x1 11)

/-- Adapter `n`'s matrix. -/
def adapterMat (x4 : Vec Ideal S5x3584x128 .bf16) (n : Fin 5) : Vec Ideal S1x3584x128 .bf16 :=
  View.ld x4 (Rect.unit (s := S5x3584x128) ![n.1, 0, 0] S1x3584x128.size (by fin_cases n <;> decide))

/-- Each row's product with its adapter's matrix, times the row's factor. -/
def shrunk (x0 : Vec Ideal S12 .i32) (x1 : Vec Ideal S5 .f32) (n : FVec Ideal S16x3584 .bf16) (x4 : Vec Ideal S5x3584x128 .bf16) : FVec Ideal S16x128 .f32 :=
  k0_pay44 n (rowWord x0) (rowFactor x0 x1) k0_pay42 (k0_pay43 (rowWord x0)) (adapterMat x4 0) (adapterMat x4 1) (adapterMat x4 2) (adapterMat x4 3) (adapterMat x4 4)

def storedCoefs (x0 : Vec Ideal S12 .i32) (s : FVec Ideal S16x128 .f32) : Vec Ideal S2x16x320 .bf16 :=
  View.canon (Val := Elt Ideal) [⟨Rect.unit (s := S2x16x320) ![1, 0, 0] S1x16x320.size inb_S2x16x320_S1x16x320_1_0_0, k0_pay64 (k0_pay49 (rowWord x0) (k0_pay45 s))⟩,
    ⟨Rect.unit (s := S2x16x320) ![0, 0, 0] S1x16x320.size inb_S2x16x320_S1x16x320_0_0_0, k0_pay48 (k0_pay47 (rowWord x0) s)⟩]

def storedScales (x16 : Vec Ideal S148x3584 .bf16) : Vec Ideal S74x2x3584 .bf16 :=
  View.canon (Val := Elt Ideal) [⟨Rect.unit (s := S74x2x3584) ![0, 0, 0] S74x2x3584.size inb_S74x2x3584_S74x2x3584_0_0_0,
    k0_pay65 (View.ld x16 (Rect.unit (s := S148x3584) ![0, 0] S148x3584.size inb_S148x3584_S148x3584_0_0))⟩]

end Cert.KernelIdeal.Vocab

end
-- ==== Proof.Payloads.lean ====
/-
  The first grid point's row payloads as the interleaved columns of the normalised rows.
-/
module

public import proofs.«01_k».proof.Proof.Init

@[expose] public section

set_option maxRecDepth 16384

noncomputable section

namespace Cert.KernelIdeal.Vocab

open Cert.KernelIdeal Cert.KernelIdeal.Gen Idealize.ShloMosaic

variable (p : FVec Ideal S256x256 .bf16) (a : Vec Ideal S16x3584 .f32) (b : Vec Ideal S1x3584 .f32) (n : FVec Ideal S16x3584 .bf16)

theorem whole_eq : (fun j => a ((Rect.unit (s := S16x3584) ![0, 0] S16x3584.size inb_S16x3584_S16x3584_0_0).toLoadRect.idx j)) = wholeRows a := rfl

theorem pay15_eq : k0_pay15 a b = normedRows (k0_pay14 a b) := rfl
theorem pay16_eq : k0_pay16 p a b = interleaved (k0_pay14 a b) p 0 := rfl
theorem pay17_eq : k0_pay17 p a b = interleaved (k0_pay14 a b) p 1 := rfl
theorem pay19_eq : k0_pay19 p (k0_pay18 a b) = interleaved (k0_pay14 a b) p 2 := rfl
theorem pay20_eq : k0_pay20 p n = interleaved n p 3 := rfl
theorem pay21_eq : k0_pay21 p n = interleaved n p 4 := rfl
theorem pay22_eq : k0_pay22 p n = interleaved n p 5 := rfl
theorem pay23_eq : k0_pay23 p n = interleaved n p 6 := rfl
theorem pay25_eq : k0_pay25 p (k0_pay24 n) = interleaved n p 7 := rfl
theorem pay26_eq : k0_pay26 p n = interleaved n p 8 := rfl
theorem pay27_eq : k0_pay27 p n = interleaved n p 9 := rfl
theorem pay28_eq : k0_pay28 p n = interleaved n p 10 := rfl
theorem pay29_eq : k0_pay29 p n = interleaved n p 11 := rfl
theorem pay31_eq : k0_pay31 p (k0_pay30 n) = interleaved n p 12 := rfl
theorem pay32_eq : k0_pay32 p n = interleaved n p 13 := rfl

end Cert.KernelIdeal.Vocab

end
-- ==== Proof.Points.lean ====
/-
  The two hidden tiles and the operands of the down projection at a grid point, from what the point before left.
-/
module

public import proofs.«01_k».proof.Proof.Init
public import proofs.«01_k».proof.Proof.Gen.KernelIdeal.Frame

@[expose] public section

set_option maxRecDepth 16384

noncomputable section

namespace Cert.KernelIdeal.Steps

open Cert.KernelIdeal Cert.KernelIdeal.Gen Idealize.ShloMosaic Idealize.ShloMosaic.TcCoe Idealize.SL.Sem

variable (m : (ℓ : Loc nD τ sig) → Buf (Elt Ideal) ℓ) (hH : Hyps m) (c : Dev nD) (t : Fin cfg0.N)

/-- What the point before left. -/
abbrev before := outsAt0 m hH c (t.val - 1) (Nat.lt_of_le_of_lt (Nat.sub_le _ _) t.isLt)
/-- What the point leaves. -/
abbrev left := outsAt0 m hH c t.val t.isLt

/-- The hidden tile of the lower half, of given rows and coefficients. -/
def lowHidden (xi : Vec Ideal S16x3584 .bf16) (co : Vec Ideal S2x16x320 .bf16) : FVec Ideal S16x256 .bf16 :=
  Vocab.hidden xi co (iblk m c 5 t) (iblk m c 7 t) (iblk m c 9 t) (iblk m c 11 t) (iblk m c 13 t)
/-- The hidden tile of the upper half. -/
def highHidden (xi : Vec Ideal S16x3584 .bf16) (co : Vec Ideal S2x16x320 .bf16) : FVec Ideal S16x256 .bf16 :=
  Vocab.hidden xi co (iblk m c 6 t) (iblk m c 8 t) (iblk m c 10 t) (iblk m c 12 t) (iblk m c 14 t)
/-- The two halves' first columns, interleaved. -/
def firstGroup (xi : Vec Ideal S16x3584 .bf16) (co : Vec Ideal S2x16x320 .bf16) (p : Vec Ideal S256x256 .bf16) : FVec Ideal S16x256 .bf16 :=
  Vocab.reorder (Vocab.firstCols (lowHidden m c t xi co)) (Vocab.firstCols (highHidden m c t xi co)) (Vocab.wholePerm p)
/-- The two halves' last columns, interleaved. -/
def secondGroup (xi : Vec Ideal S16x3584 .bf16) (co : Vec Ideal S2x16x320 .bf16) (p : Vec Ideal S256x256 .bf16) : FVec Ideal S16x256 .bf16 :=
  Vocab.reorder (Vocab.lastCols (lowHidden m c t xi co)) (Vocab.lastCols (highHidden m c t xi co)) (Vocab.wholePerm p)

/-- The stored tile of a hidden tile. -/
def storedTile (h : FVec Ideal S16x256 .bf16) : Vec Ideal S12x256 .bf16 :=
  View.canon (Val := Elt Ideal) [⟨Rect.unit (s := S12x256) ![0, 0] S12x256.size inb_S12x256_S12x256_0_0, Vocab.hiddenRows h⟩]

/-- The down accumulator after a point that found `y`. -/
def storedDown (xi : Vec Ideal S16x3584 .bf16) (co : Vec Ideal S2x16x320 .bf16) (p : Vec Ideal S256x256 .bf16) (y : Vec Ideal S16x3584 .f32)
    (sc : Vec Ideal S74x2x3584 .bf16) : Vec Ideal S16x3584 .f32 :=
  View.canon (Val := Elt Ideal) (List.ofFn fun k : Fin 14 => ⟨Vocab.tileRect ⟨13 - k.1, by omega⟩,
    Vocab.downTile (View.ld y (Vocab.tileRect ⟨13 - k.1, by omega⟩)) (firstGroup m c t xi co p) (secondGroup m c t xi co p)
      (Vocab.scalePair sc (grid0.coords t) 0) (Vocab.scalePair sc (grid0.coords t) 1) (iblk m c 15 t) ⟨13 - k.1, by omega⟩⟩)

/-- The coefficients after a point that found `a`. -/
def storedAdd (xi : Vec Ideal S16x3584 .bf16) (co : Vec Ideal S2x16x320 .bf16) (a : Vec Ideal S5x16x64 .f32) : Vec Ideal S5x16x64 .f32 :=
  View.canon (Val := Elt Ideal) (List.ofFn fun k : Fin 5 => ⟨Vocab.laneRect ⟨4 - k.1, by omega⟩,
    Vocab.coefTile (View.ld a (Vocab.laneRect ⟨4 - k.1, by omega⟩)) (lowHidden m c t xi co) (highHidden m c t xi co) (iblk m c 17 t) (iblk m c 18 t) ⟨4 - k.1, by omega⟩⟩)

end Cert.KernelIdeal.Steps

end
-- ==== Proof.StepA.lean ====
/-
  What the first grid point leaves in the scratches it fills once, and its two hidden tiles.
-/
module

public import proofs.«01_k».proof.Proof.Payloads
public import proofs.«01_k».proof.Proof.Points
public import proofs.«01_k».proof.Proof.Gen.KernelIdeal.Frame
public import Idealize.ShloMosaic.Lib.Pipeline.ReadBack

@[expose] public section

set_option maxRecDepth 16384
set_option maxHeartbeats 4000000

noncomputable section

namespace Cert.KernelIdeal.Steps

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (hH : Hyps m) (c : Dev nD) (t : Fin cfg0.N)

theorem resid_A (h0 : t.val % 37 = 0) (h1 : ¬ t.val % 37 = 36) :
    (left m hH c t).2.2.2.2.2.2.2.2.2.2.2.1 = (Vocab.residual (iblk m c 2 t)) := by
  unfold left
  rw [outsAt0_A m hH c t h0 h1]
  dsimp only
  unfold sout0_A_5
  rw [View.read_writes_junk_eq_canon]
  unfold kernelRun0_A
  dsimp only
  sl_unfold_words
  simp only [View.readAt_eq_ld, View.readCov_eq_canon', Memref.IsWhole.read_unread, read_unread_whole]
  rfl

theorem perm_A (h0 : t.val % 37 = 0) (h1 : ¬ t.val % 37 = 36) :
    (left m hH c t).2.2.2.2.2.2.2.2.1 = Vocab.storedPerm := by
  unfold left
  rw [outsAt0_A m hH c t h0 h1]
  dsimp only
  unfold sout0_A_2
  rw [View.read_writes_junk_eq_canon]
  unfold kernelRun0_A
  dsimp only
  sl_unfold_words
  simp only [View.readAt_eq_ld, View.readCov_eq_canon', Memref.IsWhole.read_unread, read_unread_whole]
  rfl

theorem scales_A (h0 : t.val % 37 = 0) (h1 : ¬ t.val % 37 = 36) :
    (left m hH c t).2.2.2.2.2.2.2.2.2.2.2.2 = (Vocab.storedScales (iblk m c 16 t)) := by
  unfold left
  rw [outsAt0_A m hH c t h0 h1]
  dsimp only
  unfold sout0_A_6
  rw [View.read_writes_junk_eq_canon]
  unfold kernelRun0_A
  dsimp only
  sl_unfold_words
  simp only [View.readAt_eq_ld, View.readCov_eq_canon', Memref.IsWhole.read_unread, read_unread_whole]
  rfl

theorem rows_A (h0 : t.val % 37 = 0) (h1 : ¬ t.val % 37 = 36) :
    (left m hH c t).2.2.2.2.2.2.1 = (Vocab.storedRows (iblk m c 2 t) (iblk m c 3 t)) := by
  unfold left
  rw [outsAt0_A m hH c t h0 h1]
  dsimp only
  unfold sout0_A_0
  rw [View.read_writes_junk_eq_canon]
  unfold kernelRun0_A
  dsimp only
  sl_unfold_words
  simp only [View.readAt_eq_ld, View.readCov_eq_canon', Memref.IsWhole.read_unread, read_unread_whole]
  rw [(show View.canon (Val := Elt Ideal) (s := S16x3584) (e := .f32) [_, _] = (Vocab.residual (iblk m c 2 t)) from ?eR)]
  case eR => rfl
  try simp only [Vocab.pay15_eq, Vocab.pay16_eq, Vocab.pay17_eq, Vocab.pay19_eq, Vocab.pay20_eq, Vocab.pay21_eq, Vocab.pay22_eq, Vocab.pay23_eq, Vocab.pay25_eq, Vocab.pay26_eq, Vocab.pay27_eq, Vocab.pay28_eq, Vocab.pay29_eq, Vocab.pay31_eq, Vocab.pay32_eq]
  rw [(show k0_pay9 _ _ _ _ _ _ = Vocab.initPerm from ?eQ),
    (show k0_pay14 _ _ = Vocab.normed (iblk m c 2 t) (iblk m c 3 t) from ?eN)]
  case eQ => rfl
  case eN => exact congrArg (fun w => k0_pay14 w _) (Vocab.whole_eq _)
  rfl

theorem normed_A (h0 : t.val % 37 = 0) (h1 : ¬ t.val % 37 = 36) :
    (left m hH c t).2.1 = View.canon (Val := Elt Ideal) [⟨Rect.unit (s := S12x3584) ![0, 0] S12x3584.size inb_S12x3584_S12x3584_0_0, Vocab.normedRows (Vocab.normed (iblk m c 2 t) (iblk m c 3 t))⟩] := by
  unfold left
  rw [outsAt0_A m hH c t h0 h1]
  dsimp only
  unfold out0_A_21
  rw [View.read_writes_junk_eq_canon]
  unfold kernelRun0_A
  dsimp only
  sl_unfold_words
  simp only [View.readAt_eq_ld, View.readCov_eq_canon', Memref.IsWhole.read_unread, read_unread_whole]
  rw [(show View.canon (Val := Elt Ideal) (s := S16x3584) (e := .f32) [_, _] = (Vocab.residual (iblk m c 2 t)) from ?eR)]
  case eR => rfl
  try simp only [Vocab.pay15_eq, Vocab.pay16_eq, Vocab.pay17_eq, Vocab.pay19_eq, Vocab.pay20_eq, Vocab.pay21_eq, Vocab.pay22_eq, Vocab.pay23_eq, Vocab.pay25_eq, Vocab.pay26_eq, Vocab.pay27_eq, Vocab.pay28_eq, Vocab.pay29_eq, Vocab.pay31_eq, Vocab.pay32_eq]
  rw [(show k0_pay14 _ _ = Vocab.normed (iblk m c 2 t) (iblk m c 3 t) from ?eN)]
  case eN => exact congrArg (fun w => k0_pay14 w _) (Vocab.whole_eq _)

theorem shrunk_A (h0 : t.val % 37 = 0) (h1 : ¬ t.val % 37 = 36) :
    (left m hH c t).2.2.2.2.1 = View.canon (Val := Elt Ideal) [⟨Rect.unit (s := S12x128) ![0, 0] S12x128.size inb_S12x128_S12x128_0_0, k0_pay46 (Vocab.shrunk (iblk m c 0 t) (iblk m c 1 t) (Vocab.normed (iblk m c 2 t) (iblk m c 3 t)) (iblk m c 4 t))⟩] := by
  unfold left
  rw [outsAt0_A m hH c t h0 h1]
  dsimp only
  unfold out0_A_24
  rw [View.read_writes_junk_eq_canon]
  unfold kernelRun0_A
  dsimp only
  sl_unfold_words
  simp only [Vocab.readAt_pick]
  simp only [View.readAt_eq_ld, View.readCov_eq_canon', Memref.IsWhole.read_unread, read_unread_whole]
  rw [(show View.canon (Val := Elt Ideal) (s := S16x3584) (e := .f32) [_, _] = (Vocab.residual (iblk m c 2 t)) from ?eR)]
  case eR => rfl
  try simp only [Vocab.pay15_eq, Vocab.pay16_eq, Vocab.pay17_eq, Vocab.pay19_eq, Vocab.pay20_eq, Vocab.pay21_eq, Vocab.pay22_eq, Vocab.pay23_eq, Vocab.pay25_eq, Vocab.pay26_eq, Vocab.pay27_eq, Vocab.pay28_eq, Vocab.pay29_eq, Vocab.pay31_eq, Vocab.pay32_eq]
  rw [(show k0_pay14 _ _ = Vocab.normed (iblk m c 2 t) (iblk m c 3 t) from ?eN),
    (show k0_pay34 (F := Ideal) _ _ _ _ _ _ _ _ _ _ = Vocab.rowWord (iblk m c 0 t) from ?eW),
    (show k0_pay41 _ _ _ _ _ _ _ _ _ = Vocab.rowFactor (iblk m c 0 t) (iblk m c 1 t) from ?eF),
    (show k0_pay44 _ _ _ _ _ _ _ _ _ _ = (Vocab.shrunk (iblk m c 0 t) (iblk m c 1 t) (Vocab.normed (iblk m c 2 t) (iblk m c 3 t)) (iblk m c 4 t)) from ?eH)]
  case eN => exact congrArg (fun w => k0_pay14 w _) (Vocab.whole_eq _)
  case eW => rfl
  case eF => rfl
  case eH => rfl

theorem coefs_A (h0 : t.val % 37 = 0) (h1 : ¬ t.val % 37 = 36) :
    (left m hH c t).2.2.2.2.2.2.2.1 = (Vocab.storedCoefs (iblk m c 0 t) (Vocab.shrunk (iblk m c 0 t) (iblk m c 1 t) (Vocab.normed (iblk m c 2 t) (iblk m c 3 t)) (iblk m c 4 t))) := by
  unfold left
  rw [outsAt0_A m hH c t h0 h1]
  dsimp only
  unfold sout0_A_1
  rw [View.read_writes_junk_eq_canon]
  unfold kernelRun0_A
  dsimp only
  sl_unfold_words
  simp only [Vocab.readAt_pick]
  simp only [View.readAt_eq_ld, View.readCov_eq_canon', Memref.IsWhole.read_unread, read_unread_whole]
  rw [(show View.canon (Val := Elt Ideal) (s := S16x3584) (e := .f32) [_, _] = (Vocab.residual (iblk m c 2 t)) from ?eR)]
  case eR => rfl
  try simp only [Vocab.pay15_eq, Vocab.pay16_eq, Vocab.pay17_eq, Vocab.pay19_eq, Vocab.pay20_eq, Vocab.pay21_eq, Vocab.pay22_eq, Vocab.pay23_eq, Vocab.pay25_eq, Vocab.pay26_eq, Vocab.pay27_eq, Vocab.pay28_eq, Vocab.pay29_eq, Vocab.pay31_eq, Vocab.pay32_eq]
  rw [(show k0_pay14 _ _ = Vocab.normed (iblk m c 2 t) (iblk m c 3 t) from ?eN),
    (show k0_pay34 (F := Ideal) _ _ _ _ _ _ _ _ _ _ = Vocab.rowWord (iblk m c 0 t) from ?eW),
    (show k0_pay41 _ _ _ _ _ _ _ _ _ = Vocab.rowFactor (iblk m c 0 t) (iblk m c 1 t) from ?eF),
    (show k0_pay44 _ _ _ _ _ _ _ _ _ _ = (Vocab.shrunk (iblk m c 0 t) (iblk m c 1 t) (Vocab.normed (iblk m c 2 t) (iblk m c 3 t)) (iblk m c 4 t)) from ?eH)]
  case eN => exact congrArg (fun w => k0_pay14 w _) (Vocab.whole_eq _)
  case eW => rfl
  case eF => rfl
  case eH => rfl
  rfl

theorem low_A (h0 : t.val % 37 = 0) (h1 : ¬ t.val % 37 = 36) :
    (left m hH c t).2.2.1 = storedTile (lowHidden m c t (Vocab.storedRows (iblk m c 2 t) (iblk m c 3 t)) (Vocab.storedCoefs (iblk m c 0 t) (Vocab.shrunk (iblk m c 0 t) (iblk m c 1 t) (Vocab.normed (iblk m c 2 t) (iblk m c 3 t)) (iblk m c 4 t)))) := by
  unfold left
  rw [outsAt0_A m hH c t h0 h1]
  dsimp only
  unfold out0_A_22
  rw [View.read_writes_junk_eq_canon]
  unfold kernelRun0_A
  dsimp only
  sl_unfold_words
  simp only [Vocab.readAt_pick]
  simp only [View.readAt_eq_ld, View.readCov_eq_canon', Memref.IsWhole.read_unread, read_unread_whole]
  rw [(show View.canon (Val := Elt Ideal) (s := S16x3584) (e := .f32) [_, _] = (Vocab.residual (iblk m c 2 t)) from ?eR)]
  case eR => rfl
  try simp only [Vocab.pay15_eq, Vocab.pay16_eq, Vocab.pay17_eq, Vocab.pay19_eq, Vocab.pay20_eq, Vocab.pay21_eq, Vocab.pay22_eq, Vocab.pay23_eq, Vocab.pay25_eq, Vocab.pay26_eq, Vocab.pay27_eq, Vocab.pay28_eq, Vocab.pay29_eq, Vocab.pay31_eq, Vocab.pay32_eq]
  rw [(show k0_pay9 _ _ _ _ _ _ = Vocab.initPerm from ?eQ),
    (show k0_pay14 _ _ = Vocab.normed (iblk m c 2 t) (iblk m c 3 t) from ?eN),
    (show k0_pay34 (F := Ideal) _ _ _ _ _ _ _ _ _ _ = Vocab.rowWord (iblk m c 0 t) from ?eW),
    (show k0_pay41 _ _ _ _ _ _ _ _ _ = Vocab.rowFactor (iblk m c 0 t) (iblk m c 1 t) from ?eF),
    (show k0_pay44 _ _ _ _ _ _ _ _ _ _ = (Vocab.shrunk (iblk m c 0 t) (iblk m c 1 t) (Vocab.normed (iblk m c 2 t) (iblk m c 3 t)) (iblk m c 4 t)) from ?eH),
    (show View.canon (Val := Elt Ideal) (s := S16x3584) (e := .bf16) _ = (Vocab.storedRows (iblk m c 2 t) (iblk m c 3 t)) from ?eX),
    (show View.canon (Val := Elt Ideal) (s := S2x16x320) (e := .bf16) _ = (Vocab.storedCoefs (iblk m c 0 t) (Vocab.shrunk (iblk m c 0 t) (iblk m c 1 t) (Vocab.normed (iblk m c 2 t) (iblk m c 3 t)) (iblk m c 4 t))) from ?eC)]
  case eQ => rfl
  case eN => exact congrArg (fun w => k0_pay14 w _) (Vocab.whole_eq _)
  case eW => rfl
  case eF => rfl
  case eH => rfl
  case eX => rfl
  case eC => rfl
  unfold storedTile lowHidden
  generalize Vocab.storedRows (iblk m c 2 t) (iblk m c 3 t) = s0, Vocab.storedCoefs (iblk m c 0 t) (Vocab.shrunk (iblk m c 0 t) (iblk m c 1 t) (Vocab.normed (iblk m c 2 t) (iblk m c 3 t)) (iblk m c 4 t)) = s1, iblk m c 5 t = x5, iblk m c 7 t = x7, iblk m c 9 t = x9, iblk m c 11 t = x11, iblk m c 13 t = x13
  rfl

theorem high_A (h0 : t.val % 37 = 0) (h1 : ¬ t.val % 37 = 36) :
    (left m hH c t).2.2.2.1 = storedTile (highHidden m c t (Vocab.storedRows (iblk m c 2 t) (iblk m c 3 t)) (Vocab.storedCoefs (iblk m c 0 t) (Vocab.shrunk (iblk m c 0 t) (iblk m c 1 t) (Vocab.normed (iblk m c 2 t) (iblk m c 3 t)) (iblk m c 4 t)))) := by
  unfold left
  rw [outsAt0_A m hH c t h0 h1]
  dsimp only
  unfold out0_A_23
  rw [View.read_writes_junk_eq_canon]
  unfold kernelRun0_A
  dsimp only
  sl_unfold_words
  simp only [Vocab.readAt_pick]
  simp only [View.readAt_eq_ld, View.readCov_eq_canon', Memref.IsWhole.read_unread, read_unread_whole]
  rw [(show View.canon (Val := Elt Ideal) (s := S16x3584) (e := .f32) [_, _] = (Vocab.residual (iblk m c 2 t)) from ?eR)]
  case eR => rfl
  try simp only [Vocab.pay15_eq, Vocab.pay16_eq, Vocab.pay17_eq, Vocab.pay19_eq, Vocab.pay20_eq, Vocab.pay21_eq, Vocab.pay22_eq, Vocab.pay23_eq, Vocab.pay25_eq, Vocab.pay26_eq, Vocab.pay27_eq, Vocab.pay28_eq, Vocab.pay29_eq, Vocab.pay31_eq, Vocab.pay32_eq]
  rw [(show k0_pay9 _ _ _ _ _ _ = Vocab.initPerm from ?eQ),
    (show k0_pay14 _ _ = Vocab.normed (iblk m c 2 t) (iblk m c 3 t) from ?eN),
    (show k0_pay34 (F := Ideal) _ _ _ _ _ _ _ _ _ _ = Vocab.rowWord (iblk m c 0 t) from ?eW),
    (show k0_pay41 _ _ _ _ _ _ _ _ _ = Vocab.rowFactor (iblk m c 0 t) (iblk m c 1 t) from ?eF),
    (show k0_pay44 _ _ _ _ _ _ _ _ _ _ = (Vocab.shrunk (iblk m c 0 t) (iblk m c 1 t) (Vocab.normed (iblk m c 2 t) (iblk m c 3 t)) (iblk m c 4 t)) from ?eH),
    (show View.canon (Val := Elt Ideal) (s := S16x3584) (e := .bf16) _ = (Vocab.storedRows (iblk m c 2 t) (iblk m c 3 t)) from ?eX),
    (show View.canon (Val := Elt Ideal) (s := S2x16x320) (e := .bf16) _ = (Vocab.storedCoefs (iblk m c 0 t) (Vocab.shrunk (iblk m c 0 t) (iblk m c 1 t) (Vocab.normed (iblk m c 2 t) (iblk m c 3 t)) (iblk m c 4 t))) from ?eC)]
  case eQ => rfl
  case eN => exact congrArg (fun w => k0_pay14 w _) (Vocab.whole_eq _)
  case eW => rfl
  case eF => rfl
  case eH => rfl
  case eX => rfl
  case eC => rfl
  unfold storedTile highHidden
  generalize Vocab.storedRows (iblk m c 2 t) (iblk m c 3 t) = s0, Vocab.storedCoefs (iblk m c 0 t) (Vocab.shrunk (iblk m c 0 t) (iblk m c 1 t) (Vocab.normed (iblk m c 2 t) (iblk m c 3 t)) (iblk m c 4 t)) = s1, iblk m c 6 t = x6, iblk m c 8 t = x8, iblk m c 10 t = x10, iblk m c 12 t = x12, iblk m c 14 t = x14
  rfl

end Cert.KernelIdeal.Steps

end
-- ==== Proof.StepB.lean ====
/-
  What a grid point that is neither the first nor the last leaves, from what it found.
-/
module

public import proofs.«01_k».proof.Proof.Points
public import proofs.«01_k».proof.Proof.Gen.KernelIdeal.Frame
public import Idealize.ShloMosaic.Lib.Pipeline.ReadBack

@[expose] public section

set_option maxRecDepth 16384
set_option maxHeartbeats 4000000

noncomputable section

namespace Cert.KernelIdeal.Steps

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (hH : Hyps m) (c : Dev nD) (t : Fin cfg0.N)

theorem low_B (h0 : ¬ t.val % 37 = 0) (h1 : ¬ t.val % 37 = 36) :
    (left m hH c t).2.2.1 = storedTile (lowHidden m c t (before m hH c t).2.2.2.2.2.2.1 (before m hH c t).2.2.2.2.2.2.2.1) := by
  unfold left
  rw [outsAt0_B m hH c t h0 h1]
  dsimp only
  unfold out0_B_22
  rw [View.read_writes_junk_eq_canon]
  unfold kernelRun0_B
  dsimp only
  sl_unfold_words
  simp only [View.readAt_eq_ld, View.readCov_eq_canon', Memref.IsWhole.read_unread, read_unread_whole]
  unfold storedTile lowHidden
  generalize iblk m c 5 t = x5, iblk m c 7 t = x7, iblk m c 9 t = x9, iblk m c 11 t = x11, iblk m c 13 t = x13, (before m hH c t).2.2.2.2.2.2.1 = s0, (before m hH c t).2.2.2.2.2.2.2.1 = s1
  rfl

theorem high_B (h0 : ¬ t.val % 37 = 0) (h1 : ¬ t.val % 37 = 36) :
    (left m hH c t).2.2.2.1 = storedTile (highHidden m c t (before m hH c t).2.2.2.2.2.2.1 (before m hH c t).2.2.2.2.2.2.2.1) := by
  unfold left
  rw [outsAt0_B m hH c t h0 h1]
  dsimp only
  unfold out0_B_23
  rw [View.read_writes_junk_eq_canon]
  unfold kernelRun0_B
  dsimp only
  sl_unfold_words
  simp only [View.readAt_eq_ld, View.readCov_eq_canon', Memref.IsWhole.read_unread, read_unread_whole]
  unfold storedTile highHidden
  generalize iblk m c 6 t = x6, iblk m c 8 t = x8, iblk m c 10 t = x10, iblk m c 12 t = x12, iblk m c 14 t = x14, (before m hH c t).2.2.2.2.2.2.1 = s0, (before m hH c t).2.2.2.2.2.2.2.1 = s1
  rfl

theorem down_B (h0 : ¬ t.val % 37 = 0) (h1 : ¬ t.val % 37 = 36) :
    (left m hH c t).2.2.2.2.2.2.2.2.2.1 = storedDown m c t (before m hH c t).2.2.2.2.2.2.1 (before m hH c t).2.2.2.2.2.2.2.1 (before m hH c t).2.2.2.2.2.2.2.2.1 (before m hH c t).2.2.2.2.2.2.2.2.2.1 (before m hH c t).2.2.2.2.2.2.2.2.2.2.2.2 := by
  unfold left
  rw [outsAt0_B m hH c t h0 h1]
  dsimp only
  unfold sout0_B_3
  rw [View.read_writes_junk_eq_canon]
  unfold kernelRun0_B
  dsimp only
  sl_unfold_words
  simp only [View.readAt_eq_ld, View.readCov_eq_canon', Memref.IsWhole.read_unread, read_unread_whole]
  unfold storedDown firstGroup secondGroup lowHidden highHidden
  generalize iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 15 t = x15, (before m hH c t).2.2.2.2.2.2.1 = s0, (before m hH c t).2.2.2.2.2.2.2.1 = s1, (before m hH c t).2.2.2.2.2.2.2.2.1 = s2, (before m hH c t).2.2.2.2.2.2.2.2.2.1 = s3, (before m hH c t).2.2.2.2.2.2.2.2.2.2.2.2 = s6
  rw [(show k0_pay187 _ _ _ _ _ _ _ _ _ = Vocab.reorder (Vocab.firstCols (Vocab.hidden s0 s1 x5 x7 x9 x11 x13)) (Vocab.firstCols (Vocab.hidden s0 s1 x6 x8 x10 x12 x14)) (Vocab.wholePerm s2) from ?e1),
    (show k0_pay188 _ _ _ _ _ _ _ _ _ = Vocab.reorder (Vocab.lastCols (Vocab.hidden s0 s1 x5 x7 x9 x11 x13)) (Vocab.lastCols (Vocab.hidden s0 s1 x6 x8 x10 x12 x14)) (Vocab.wholePerm s2) from ?e2)]
  case e1 => rfl
  case e2 => rfl
  generalize Vocab.reorder (Vocab.firstCols _) _ _ = a
  generalize Vocab.reorder (Vocab.lastCols _) _ _ = b
  rfl

theorem add_B (h0 : ¬ t.val % 37 = 0) (h1 : ¬ t.val % 37 = 36) :
    (left m hH c t).2.2.2.2.2.2.2.2.2.2.1 = storedAdd m c t (before m hH c t).2.2.2.2.2.2.1 (before m hH c t).2.2.2.2.2.2.2.1 (before m hH c t).2.2.2.2.2.2.2.2.2.2.1 := by
  unfold left
  rw [outsAt0_B m hH c t h0 h1]
  dsimp only
  unfold sout0_B_4
  rw [View.read_writes_junk_eq_canon]
  unfold kernelRun0_B
  dsimp only
  sl_unfold_words
  simp only [View.readAt_eq_ld, View.readCov_eq_canon', Memref.IsWhole.read_unread, read_unread_whole]
  unfold storedAdd lowHidden highHidden
  generalize iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 17 t = x17, iblk m c 18 t = x18, (before m hH c t).2.2.2.2.2.2.1 = s0, (before m hH c t).2.2.2.2.2.2.2.1 = s1, (before m hH c t).2.2.2.2.2.2.2.2.2.2.1 = s4
  rfl

theorem normed_B (h0 : ¬ t.val % 37 = 0) (h1 : ¬ t.val % 37 = 36) : (left m hH c t).2.1 = (before m hH c t).2.1 := by
  unfold left
  rw [outsAt0_B m hH c t h0 h1]
  rfl

theorem shrunk_B (h0 : ¬ t.val % 37 = 0) (h1 : ¬ t.val % 37 = 36) : (left m hH c t).2.2.2.2.1 = (before m hH c t).2.2.2.2.1 := by
  unfold left
  rw [outsAt0_B m hH c t h0 h1]
  rfl

theorem rows_B (h0 : ¬ t.val % 37 = 0) (h1 : ¬ t.val % 37 = 36) : (left m hH c t).2.2.2.2.2.2.1 = (before m hH c t).2.2.2.2.2.2.1 := by
  unfold left
  rw [outsAt0_B m hH c t h0 h1]
  rfl

theorem coefs_B (h0 : ¬ t.val % 37 = 0) (h1 : ¬ t.val % 37 = 36) : (left m hH c t).2.2.2.2.2.2.2.1 = (before m hH c t).2.2.2.2.2.2.2.1 := by
  unfold left
  rw [outsAt0_B m hH c t h0 h1]
  rfl

theorem perm_B (h0 : ¬ t.val % 37 = 0) (h1 : ¬ t.val % 37 = 36) : (left m hH c t).2.2.2.2.2.2.2.2.1 = (before m hH c t).2.2.2.2.2.2.2.2.1 := by
  unfold left
  rw [outsAt0_B m hH c t h0 h1]
  rfl

theorem resid_B (h0 : ¬ t.val % 37 = 0) (h1 : ¬ t.val % 37 = 36) : (left m hH c t).2.2.2.2.2.2.2.2.2.2.2.1 = (before m hH c t).2.2.2.2.2.2.2.2.2.2.2.1 := by
  unfold left
  rw [outsAt0_B m hH c t h0 h1]
  rfl

theorem scales_B (h0 : ¬ t.val % 37 = 0) (h1 : ¬ t.val % 37 = 36) : (left m hH c t).2.2.2.2.2.2.2.2.2.2.2.2 = (before m hH c t).2.2.2.2.2.2.2.2.2.2.2.2 := by
  unfold left
  rw [outsAt0_B m hH c t h0 h1]
  rfl

end Cert.KernelIdeal.Steps

end
-- ==== Proof.Final.lean ====
/-
  What the last grid point computes from the finished accumulators, under names.
-/
module

public import proofs.«01_k».proof.Proof.Init

@[expose] public section

set_option maxRecDepth 16384

noncomputable section

namespace Cert.KernelIdeal.Vocab

open Cert.KernelIdeal Cert.KernelIdeal.Gen Idealize.ShloMosaic

def laneOf (a : Vec Ideal S5x16x64 .f32) (n : Fin 5) : Vec Ideal S1x16x64 .f32 := View.ld a (laneRect n)

/-- Each row's low-rank coefficients: its adapter's, times the row's factor. -/
def finalCoefs (x0 : Vec Ideal S12 .i32) (x1 : Vec Ideal S5 .f32) (a : Vec Ideal S5x16x64 .f32) : FVec Ideal S16x64 .bf16 :=
  k0_pay57 (rowWord x0) (rowFactor x0 x1) (k0_pay55 (rowWord x0) (laneOf a 0) (laneOf a 1)) (k0_pay56 (rowWord x0)) (laneOf a 2) (laneOf a 3) (laneOf a 4)

def coefRows (t : FVec Ideal S16x64 .bf16) : FVec Ideal S12x64 .bf16 :=
  extractStridedSlice S12x64 ![0, 0] t slices_S16x64_o0_0_S12x64

def growOf (x19 : Vec Ideal S5x64x3584 .bf16) (n : Fin 5) : Vec Ideal S1x64x3584 .bf16 :=
  View.ld x19 (Rect.unit (s := S5x64x3584) ![n.1, 0, 0] S1x64x3584.size (by fin_cases n <;> decide))

/-- The rows of adapter `n`, the others zeroed, times that adapter's matrix. -/
def growDot (w : IVec S16x1 32) (t : FVec Ideal S16x64 .bf16) (x19 : Vec Ideal S5x64x3584 .bf16) (n : Fin 5) : FVec Ideal S16x3584 .f32 :=
  matmul (φ₁ := .bf16) (φ₂ := .bf16) dot_S16x64_S64x3584_S16x3584_1_0_0_1_n_n none
    (truncf .bf16 (select (broadcastTo S16x64 (shapeCast S16x1 (cmpi .eq w (broadcast S16x1 (BitVec.ofNat 32 n.1))) shapeCasts_S16x1_S16x1) broadcasts_S16x1_S16x64)
      (extf .f32 t bitsLt_bf16_f32) (broadcast S16x64 (Scalar.ofBits (F := Ideal) .f32 0x00000000#32))) bitsLt_bf16_f32)
    (shapeCast S64x3584 (growOf x19 n) shapeCasts_S1x64x3584_S64x3584) (constant S16x3584 .f32 0x00000000#32)

/-- The result rows. -/
def finalRows (w : IVec S16x1 32) (t : FVec Ideal S16x64 .bf16) (y : Vec Ideal S16x3584 .f32) (x19 : Vec Ideal S5x64x3584 .bf16) (xf : Vec Ideal S16x3584 .f32) :
    FVec Ideal S12x3584 .bf16 :=
  truncf .bf16 (extractStridedSlice S12x3584 ![0, 0] (addf
    (wholeRows xf)
    (addf (addf (addf (addf (addf (wholeRows y)
      (growDot w t x19 0)) (growDot w t x19 1)) (growDot w t x19 2)) (growDot w t x19 3)) (growDot w t x19 4)))
    slices_S16x3584_o0_0_S12x3584) bitsLt_bf16_f32

end Cert.KernelIdeal.Vocab

end
-- ==== Proof.StepC.lean ====
/-
  What the last grid point leaves, from what it found.
-/
module

public import proofs.«01_k».proof.Proof.Final
public import proofs.«01_k».proof.Proof.Points
public import proofs.«01_k».proof.Proof.Gen.KernelIdeal.Frame
public import Idealize.ShloMosaic.Lib.Pipeline.ReadBack

@[expose] public section

set_option maxRecDepth 16384
set_option maxHeartbeats 4000000

noncomputable section

namespace Cert.KernelIdeal.Steps

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (hH : Hyps m) (c : Dev nD) (t : Fin cfg0.N)

theorem low_C (h0 : ¬ t.val % 37 = 0) (h1 : t.val % 37 = 36) :
    (left m hH c t).2.2.1 = storedTile (lowHidden m c t (before m hH c t).2.2.2.2.2.2.1 (before m hH c t).2.2.2.2.2.2.2.1) := by
  unfold left
  rw [outsAt0_C m hH c t h0 h1]
  dsimp only
  unfold out0_C_22
  rw [View.read_writes_junk_eq_canon]
  unfold kernelRun0_C
  dsimp only
  sl_unfold_words
  simp only [View.readAt_eq_ld, View.readCov_eq_canon', Memref.IsWhole.read_unread, read_unread_whole]
  unfold storedTile lowHidden
  generalize iblk m c 5 t = x5, iblk m c 7 t = x7, iblk m c 9 t = x9, iblk m c 11 t = x11, iblk m c 13 t = x13, (before m hH c t).2.2.2.2.2.2.1 = s0, (before m hH c t).2.2.2.2.2.2.2.1 = s1
  rfl

theorem high_C (h0 : ¬ t.val % 37 = 0) (h1 : t.val % 37 = 36) :
    (left m hH c t).2.2.2.1 = storedTile (highHidden m c t (before m hH c t).2.2.2.2.2.2.1 (before m hH c t).2.2.2.2.2.2.2.1) := by
  unfold left
  rw [outsAt0_C m hH c t h0 h1]
  dsimp only
  unfold out0_C_23
  rw [View.read_writes_junk_eq_canon]
  unfold kernelRun0_C
  dsimp only
  sl_unfold_words
  simp only [View.readAt_eq_ld, View.readCov_eq_canon', Memref.IsWhole.read_unread, read_unread_whole]
  unfold storedTile highHidden
  generalize iblk m c 6 t = x6, iblk m c 8 t = x8, iblk m c 10 t = x10, iblk m c 12 t = x12, iblk m c 14 t = x14, (before m hH c t).2.2.2.2.2.2.1 = s0, (before m hH c t).2.2.2.2.2.2.2.1 = s1
  rfl

theorem down_C (h0 : ¬ t.val % 37 = 0) (h1 : t.val % 37 = 36) :
    (left m hH c t).2.2.2.2.2.2.2.2.2.1 = storedDown m c t (before m hH c t).2.2.2.2.2.2.1 (before m hH c t).2.2.2.2.2.2.2.1 (before m hH c t).2.2.2.2.2.2.2.2.1 (before m hH c t).2.2.2.2.2.2.2.2.2.1 (before m hH c t).2.2.2.2.2.2.2.2.2.2.2.2 := by
  unfold left
  rw [outsAt0_C m hH c t h0 h1]
  dsimp only
  unfold sout0_C_3
  rw [View.read_writes_junk_eq_canon]
  unfold kernelRun0_C
  dsimp only
  sl_unfold_words
  simp only [View.readAt_eq_ld, View.readCov_eq_canon', Memref.IsWhole.read_unread, read_unread_whole]
  unfold storedDown firstGroup secondGroup lowHidden highHidden
  generalize iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 15 t = x15, (before m hH c t).2.2.2.2.2.2.1 = s0, (before m hH c t).2.2.2.2.2.2.2.1 = s1, (before m hH c t).2.2.2.2.2.2.2.2.1 = s2, (before m hH c t).2.2.2.2.2.2.2.2.2.1 = s3, (before m hH c t).2.2.2.2.2.2.2.2.2.2.2.2 = s6
  rw [(show k0_pay187 _ _ _ _ _ _ _ _ _ = Vocab.reorder (Vocab.firstCols (Vocab.hidden s0 s1 x5 x7 x9 x11 x13)) (Vocab.firstCols (Vocab.hidden s0 s1 x6 x8 x10 x12 x14)) (Vocab.wholePerm s2) from ?e1),
    (show k0_pay188 _ _ _ _ _ _ _ _ _ = Vocab.reorder (Vocab.lastCols (Vocab.hidden s0 s1 x5 x7 x9 x11 x13)) (Vocab.lastCols (Vocab.hidden s0 s1 x6 x8 x10 x12 x14)) (Vocab.wholePerm s2) from ?e2)]
  case e1 => rfl
  case e2 => rfl
  generalize Vocab.reorder (Vocab.firstCols _) _ _ = a
  generalize Vocab.reorder (Vocab.lastCols _) _ _ = b
  rfl

theorem add_C (h0 : ¬ t.val % 37 = 0) (h1 : t.val % 37 = 36) :
    (left m hH c t).2.2.2.2.2.2.2.2.2.2.1 = storedAdd m c t (before m hH c t).2.2.2.2.2.2.1 (before m hH c t).2.2.2.2.2.2.2.1 (before m hH c t).2.2.2.2.2.2.2.2.2.2.1 := by
  unfold left
  rw [outsAt0_C m hH c t h0 h1]
  dsimp only
  unfold sout0_C_4
  rw [View.read_writes_junk_eq_canon]
  unfold kernelRun0_C
  dsimp only
  sl_unfold_words
  simp only [View.readAt_eq_ld, View.readCov_eq_canon', Memref.IsWhole.read_unread, read_unread_whole]
  unfold storedAdd lowHidden highHidden
  generalize iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 17 t = x17, iblk m c 18 t = x18, (before m hH c t).2.2.2.2.2.2.1 = s0, (before m hH c t).2.2.2.2.2.2.2.1 = s1, (before m hH c t).2.2.2.2.2.2.2.2.2.2.1 = s4
  rfl

theorem rows_C (h0 : ¬ t.val % 37 = 0) (h1 : t.val % 37 = 36) : (left m hH c t).2.2.2.2.2.2.1 = (before m hH c t).2.2.2.2.2.2.1 := by
  unfold left
  rw [outsAt0_C m hH c t h0 h1]
  rfl

theorem coefs_C (h0 : ¬ t.val % 37 = 0) (h1 : t.val % 37 = 36) : (left m hH c t).2.2.2.2.2.2.2.1 = (before m hH c t).2.2.2.2.2.2.2.1 := by
  unfold left
  rw [outsAt0_C m hH c t h0 h1]
  rfl

theorem perm_C (h0 : ¬ t.val % 37 = 0) (h1 : t.val % 37 = 36) : (left m hH c t).2.2.2.2.2.2.2.2.1 = (before m hH c t).2.2.2.2.2.2.2.2.1 := by
  unfold left
  rw [outsAt0_C m hH c t h0 h1]
  rfl

theorem resid_C (h0 : ¬ t.val % 37 = 0) (h1 : t.val % 37 = 36) : (left m hH c t).2.2.2.2.2.2.2.2.2.2.2.1 = (before m hH c t).2.2.2.2.2.2.2.2.2.2.2.1 := by
  unfold left
  rw [outsAt0_C m hH c t h0 h1]
  rfl

theorem scales_C (h0 : ¬ t.val % 37 = 0) (h1 : t.val % 37 = 36) : (left m hH c t).2.2.2.2.2.2.2.2.2.2.2.2 = (before m hH c t).2.2.2.2.2.2.2.2.2.2.2.2 := by
  unfold left
  rw [outsAt0_C m hH c t h0 h1]
  rfl

theorem normed_C (h0 : ¬ t.val % 37 = 0) (h1 : t.val % 37 = 36) : (left m hH c t).2.1 = (before m hH c t).2.1 := by
  unfold left
  rw [outsAt0_C m hH c t h0 h1]
  dsimp only
  unfold out0_C_21
  rw [View.read_writes_junk_eq_canon]
  unfold kernelRun0_C
  dsimp only
  sl_unfold_words
  simp only [View.readAt_eq_ld, Memref.IsWhole.read_unread, read_unread_whole]
  unfold k0_pay4
  refine (View.canon_unit_zero (by funext a; fin_cases a <;> rfl) _ _).trans ?_
  rw [shapeCast_self]
  exact View.ld_unit_zero (by funext a; fin_cases a <;> rfl) _ _

theorem shrunk_C (h0 : ¬ t.val % 37 = 0) (h1 : t.val % 37 = 36) : (left m hH c t).2.2.2.2.1 = (before m hH c t).2.2.2.2.1 := by
  unfold left
  rw [outsAt0_C m hH c t h0 h1]
  dsimp only
  unfold out0_C_24
  rw [View.read_writes_junk_eq_canon]
  unfold kernelRun0_C
  dsimp only
  sl_unfold_words
  simp only [View.readAt_eq_ld, Memref.IsWhole.read_unread, read_unread_whole]
  unfold k0_pay5
  refine (View.canon_unit_zero (by funext a; fin_cases a <;> rfl) _ _).trans ?_
  rw [shapeCast_self]
  exact View.ld_unit_zero (by funext a; fin_cases a <;> rfl) _ _

theorem coefsOut_C (h0 : ¬ t.val % 37 = 0) (h1 : t.val % 37 = 36) :
    (left m hH c t).2.2.2.2.2.1 = View.canon (Val := Elt Ideal) [⟨Rect.unit (s := S12x64) ![0, 0] S12x64.size inb_S12x64_S12x64_0_0, Vocab.coefRows (Vocab.finalCoefs (iblk m c 0 t) (iblk m c 1 t) (storedAdd m c t (before m hH c t).2.2.2.2.2.2.1 (before m hH c t).2.2.2.2.2.2.2.1 (before m hH c t).2.2.2.2.2.2.2.2.2.2.1))⟩] := by
  unfold left
  rw [outsAt0_C m hH c t h0 h1]
  dsimp only
  unfold out0_C_25
  rw [View.read_writes_junk_eq_canon]
  unfold kernelRun0_C
  dsimp only
  sl_unfold_words
  simp only [Vocab.readAt_pick]
  simp only [View.readAt_eq_ld, View.readCov_eq_canon', Memref.IsWhole.read_unread, read_unread_whole]
  rw [(show View.canon (Val := Elt Ideal) (s := S5x16x64) (e := .f32) _ = storedAdd m c t (before m hH c t).2.2.2.2.2.2.1 (before m hH c t).2.2.2.2.2.2.2.1 (before m hH c t).2.2.2.2.2.2.2.2.2.2.1 from ?eA)]
  case eA =>
    unfold storedAdd lowHidden highHidden
    generalize iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 17 t = x17, iblk m c 18 t = x18, (before m hH c t).2.2.2.2.2.2.1 = s0, (before m hH c t).2.2.2.2.2.2.2.1 = s1, (before m hH c t).2.2.2.2.2.2.2.2.2.2.1 = s4
    rfl
  generalize storedAdd m c t (before m hH c t).2.2.2.2.2.2.1 (before m hH c t).2.2.2.2.2.2.2.1 (before m hH c t).2.2.2.2.2.2.2.2.2.2.1 = a
  rfl

theorem rowsOut_C (h0 : ¬ t.val % 37 = 0) (h1 : t.val % 37 = 36) :
    (left m hH c t).1 = View.canon (Val := Elt Ideal) [⟨Rect.unit (s := S12x3584) ![0, 0] S12x3584.size inb_S12x3584_S12x3584_0_0, Vocab.finalRows (Vocab.rowWord (iblk m c 0 t)) (Vocab.finalCoefs (iblk m c 0 t) (iblk m c 1 t) (storedAdd m c t (before m hH c t).2.2.2.2.2.2.1 (before m hH c t).2.2.2.2.2.2.2.1 (before m hH c t).2.2.2.2.2.2.2.2.2.2.1)) (storedDown m c t (before m hH c t).2.2.2.2.2.2.1 (before m hH c t).2.2.2.2.2.2.2.1 (before m hH c t).2.2.2.2.2.2.2.2.1 (before m hH c t).2.2.2.2.2.2.2.2.2.1 (before m hH c t).2.2.2.2.2.2.2.2.2.2.2.2) (iblk m c 19 t) (before m hH c t).2.2.2.2.2.2.2.2.2.2.2.1⟩] := by
  unfold left
  rw [outsAt0_C m hH c t h0 h1]
  dsimp only
  unfold out0_C_20
  rw [View.read_writes_junk_eq_canon]
  unfold kernelRun0_C
  dsimp only
  sl_unfold_words
  simp only [Vocab.readAt_pick]
  simp only [View.readAt_eq_ld, View.readCov_eq_canon', Memref.IsWhole.read_unread, read_unread_whole]
  rw [(show View.canon (Val := Elt Ideal) (s := S5x16x64) (e := .f32) _ = storedAdd m c t (before m hH c t).2.2.2.2.2.2.1 (before m hH c t).2.2.2.2.2.2.2.1 (before m hH c t).2.2.2.2.2.2.2.2.2.2.1 from ?eA),
    (show View.canon (Val := Elt Ideal) (s := S16x3584) (e := .f32) _ = storedDown m c t (before m hH c t).2.2.2.2.2.2.1 (before m hH c t).2.2.2.2.2.2.2.1 (before m hH c t).2.2.2.2.2.2.2.2.1 (before m hH c t).2.2.2.2.2.2.2.2.2.1 (before m hH c t).2.2.2.2.2.2.2.2.2.2.2.2 from ?eY)]
  case eA =>
    unfold storedAdd lowHidden highHidden
    generalize iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 17 t = x17, iblk m c 18 t = x18, (before m hH c t).2.2.2.2.2.2.1 = s0, (before m hH c t).2.2.2.2.2.2.2.1 = s1, (before m hH c t).2.2.2.2.2.2.2.2.2.2.1 = s4
    rfl
  case eY =>
    unfold storedDown firstGroup secondGroup lowHidden highHidden
    generalize iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 15 t = x15, (before m hH c t).2.2.2.2.2.2.1 = s0, (before m hH c t).2.2.2.2.2.2.2.1 = s1, (before m hH c t).2.2.2.2.2.2.2.2.1 = s2, (before m hH c t).2.2.2.2.2.2.2.2.2.1 = s3, (before m hH c t).2.2.2.2.2.2.2.2.2.2.2.2 = s6
    rw [(show k0_pay187 _ _ _ _ _ _ _ _ _ = Vocab.reorder (Vocab.firstCols (Vocab.hidden s0 s1 x5 x7 x9 x11 x13)) (Vocab.firstCols (Vocab.hidden s0 s1 x6 x8 x10 x12 x14)) (Vocab.wholePerm s2) from ?e1),
      (show k0_pay188 _ _ _ _ _ _ _ _ _ = Vocab.reorder (Vocab.lastCols (Vocab.hidden s0 s1 x5 x7 x9 x11 x13)) (Vocab.lastCols (Vocab.hidden s0 s1 x6 x8 x10 x12 x14)) (Vocab.wholePerm s2) from ?e2)]
    case e1 => rfl
    case e2 => rfl
    generalize Vocab.reorder (Vocab.firstCols _) _ _ = a
    generalize Vocab.reorder (Vocab.lastCols _) _ _ = b
    rfl
  generalize iblk m c 19 t = x19, (before m hH c t).2.2.2.2.2.2.2.2.2.2.2.1 = xf, storedAdd m c t (before m hH c t).2.2.2.2.2.2.1 (before m hH c t).2.2.2.2.2.2.2.1 (before m hH c t).2.2.2.2.2.2.2.2.2.2.1 = a, storedDown m c t (before m hH c t).2.2.2.2.2.2.1 (before m hH c t).2.2.2.2.2.2.2.1 (before m hH c t).2.2.2.2.2.2.2.2.1 (before m hH c t).2.2.2.2.2.2.2.2.2.1 (before m hH c t).2.2.2.2.2.2.2.2.2.2.2.2 = y
  rfl

end Cert.KernelIdeal.Steps

end
-- ==== Proof.Tile.lean ====
/-
  The up projection's tile and the hidden tile as sums over the rows of weights, when the tile's operands are the
  interleaved normalised rows and one adapter's coefficients.
-/
module

public import proofs.«01_k».proof.Proof.Init

@[expose] public section

set_option maxRecDepth 16384

noncomputable section

namespace Cert.KernelIdeal.Tile

open Cert.KernelIdeal Cert.KernelIdeal.Gen Cert.KernelIdeal.Vocab Idealize.ShloMosaic

/-- The interleaved rows hold, at even and odd columns, the two halves of `xn`. -/
def IsRows (xi : Vec Ideal S16x3584 .bf16) (b : Fin 16) (xn : Fin 3584 → EReal) : Prop :=
  ∀ (g : Fin 14) (r : Fin 128), xi (ix2 b ⟨256 * g.1 + 2 * r.1, by omega⟩) = xn ⟨128 * g.1 + r.1, by omega⟩
    ∧ xi (ix2 b ⟨256 * g.1 + (2 * r.1 + 1), by omega⟩) = xn ⟨1792 + (128 * g.1 + r.1), by omega⟩

/-- The coefficients hold `s` at adapter `a` and zero elsewhere. -/
def IsCoefs (m : Vec Ideal S2x16x320 .bf16) (b : Fin 16) (a : Fin 5) (s : Fin 128 → EReal) : Prop :=
  ∀ (half : Fin 2) (n : Fin 5) (r : Fin 64), m (ix3 half b ⟨64 * n.1 + r.1, by omega⟩) = (if a = n then 1 else 0) * s ⟨64 * half.1 + r.1, by omega⟩

variable (xi : Vec Ideal S16x3584 .bf16) (m : Vec Ideal S2x16x320 .bf16) (c : Vec Ideal S1792x256 .i8)
  (s : Vec Ideal S28x256 .bf16) (w : Vec Ideal S5x2x64x256 .bf16) (half : Fin 2) (b : Fin 16) (l : Fin 256)

/-- One group's share. -/
def share (xn : Fin 3584 → EReal) (g : Fin 14) : EReal :=
  ∑ r : Fin 128, (xn ⟨128 * g.1 + r.1, by omega⟩ * (Spec.low (c (ix2 ⟨128 * g.1 + r.1, by omega⟩ l)) * s (ix2 ⟨g.1, by omega⟩ l))
    + xn ⟨1792 + (128 * g.1 + r.1), by omega⟩ * (Spec.high (c (ix2 ⟨128 * g.1 + r.1, by omega⟩ l)) * s (ix2 ⟨14 + g.1, by omega⟩ l)))

theorem addGroup_at {xn : Fin 3584 → EReal} (hx : IsRows xi b xn) (g : Fin 14) (acc : FVec Ideal S16x256 .f32) :
    addGroup xi c s g acc (ix2 b l) = acc (ix2 b l) + share c s l xn g := by
  rw [addGroup, addDot_at, Sums.sum_pairs (n := 128) (N := 256) rfl]
  refine congrArg (acc (ix2 b l) + ·) (Finset.sum_congr rfl fun r _ => ?_)
  rw [dequant_even, dequant_odd, colsOf_at, colsOf_at, pairRow_lo, pairRow_hi, scaleOf_at, scaleOf_at, codesOf_at]
  rw [(hx g r).1, (hx g r).2]

theorem gateUpTo_at {xn : Fin 3584 → EReal} (hx : IsRows xi b xn) (n : ℕ) (h : n ≤ 14) :
    gateUpTo xi m c s w half n h (ix2 b l) = loraDot (coefOf m half) (loraOf w half) (ix2 b l) + ∑ g : Fin n, share c s l xn ⟨g.1, by omega⟩ := by
  induction n with
  | zero => simp [gateUpTo]
  | succ n ih => rw [gateUpTo, addGroup_at xi c s b l hx, ih, Fin.sum_univ_castSucc, add_assoc]; rfl

theorem lora_at {a : Fin 5} {sv : Fin 128 → EReal} (hm : IsCoefs m b a sv) :
    loraDot (coefOf m half) (loraOf w half) (ix2 b l) = ∑ r : Fin 64, sv ⟨64 * half.1 + r.1, by omega⟩ * w (ix4 a half r l) := by
  rw [loraDot_at]
  simp only [coefOf_at, loraOf_at, hm half, mul_assoc]
  exact Spec.sum_onehot_left a fun n r => sv ⟨64 * half.1 + r.1, by omega⟩ * w (ix4 n half r l)

/-- The tile of the up projection: the products over all rows of weights, and the adapter's share. -/
theorem gateUp_at {xn : Fin 3584 → EReal} (hx : IsRows xi b xn) {a : Fin 5} {sv : Fin 128 → EReal} (hm : IsCoefs m b a sv) :
    gateUp xi m c s w half (ix2 b l)
      = ((∑ r : Fin 1792, xn ⟨r.1, by omega⟩ * (Spec.low (c (ix2 r l)) * s (ix2 ⟨r.1 / 128, by omega⟩ l)))
          + ∑ r : Fin 1792, xn ⟨1792 + r.1, by omega⟩ * (Spec.high (c (ix2 r l)) * s (ix2 ⟨14 + r.1 / 128, by omega⟩ l)))
        + ∑ r : Fin 64, sv ⟨64 * half.1 + r.1, by omega⟩ * w (ix4 a half r l) := by
  rw [gateUp, gateUpTo_at xi m c s w half b l hx, lora_at m w half b l hm, add_comm]
  refine congrArg (· + _) ?_
  rw [← Sums.sum_blocks (n := 14) (m := 128) rfl, ← Sums.sum_blocks (n := 14) (m := 128) rfl, ← Finset.sum_add_distrib]
  refine Finset.sum_congr rfl fun g _ => ?_
  rw [share, ← Finset.sum_add_distrib]
  refine Finset.sum_congr rfl fun r _ => ?_
  have e : (128 * g.1 + r.1) / 128 = g.1 := by omega
  simp only [e]

end Cert.KernelIdeal.Tile

end
-- ==== Proof.InitAt.lean ====
/-
  What the first grid point computes, element by element.
-/
module

public import proofs.«01_k».proof.Proof.Tile

@[expose] public section

set_option maxRecDepth 16384

noncomputable section

namespace Cert.KernelIdeal.Vocab

open Cert.KernelIdeal Cert.KernelIdeal.Gen Idealize.ShloMosaic

theorem residual_at (x2 : Vec Ideal S12x3584 .bf16) (b : Fin 12) (k : Fin 3584) : residual x2 (ix2 ⟨b.1, by omega⟩ k) = x2 (ix2 b k) := by
  have e : (ix2 ⟨b.1, by omega⟩ k : S16x3584.Idx) = (Rect.unit (s := S16x3584) ![0, 0] S12x3584.size inb_S16x3584_S12x3584_0_0).emb (ix2 b k) := by
    funext a; refine Fin.ext ?_; fin_cases a
    · show b.1 = 0 + 1 * b.1; omega
    · show k.1 = 0 + 1 * k.1; omega
  rw [e, residual, View.canon_cons_emb]
  pointwise [k0_pay13, k0_pay12]
  try exact View.ld_unit_apply_of _ _ _ _ _ _ (fun a => by fin_cases a <;> simp [ix2])

theorem wholeRows_at (x : Vec Ideal S16x3584 .f32) (b : Fin 16) (k : Fin 3584) : wholeRows x (ix2 b k) = x (ix2 b k) :=
  View.ld_unit_apply_of _ _ _ _ _ _ (fun a => by fin_cases a <;> simp [ix2])

theorem normed_at (x2 : Vec Ideal S12x3584 .bf16) (x3 : Vec Ideal S1x3584 .f32) (b : Fin 12) (k : Fin 3584) :
    normed x2 x3 (ix2 ⟨b.1, by omega⟩ k) = Spec.normAt (fun l => x2 (ix2 b l)) (x3 (ix2 0 k)) k := by
  have e : ∀ k, View.ld x3 (Rect.unit (s := S1x3584) ![0, 0] S1x3584.size inb_S1x3584_S1x3584_0_0) (ix2 0 k) = x3 (ix2 0 k) := fun k =>
    View.ld_unit_apply_of _ _ _ _ _ _ (fun a => by fin_cases a <;> simp [ix2])
  rw [normed]
  generalize hw : wholeRows (residual x2) = w
  have hwk : ∀ k, w (ix2 ⟨b.1, by omega⟩ k) = x2 (ix2 b k) := fun k => by rw [← hw, wholeRows_at, residual_at]
  generalize View.ld x3 (Rect.unit (s := S1x3584) ![0, 0] S1x3584.size inb_S1x3584_S1x3584_0_0) = g at e
  pointwise [k0_pay14]
  simp only [hwk, e, Spec.normAt]
  rfl

/-- The row that column `k` of the interleaving matrix picks, as the kernel computes it. -/
def columnWord (k : Fin 256) : BitVec 32 :=
  Scalar.select (k0_pay6 (ix2 0 k)) (k0_pay7 (ix2 0 k)) (IntOp.addi 128#32 (k0_pay7 (ix2 0 k)))

theorem columnWord_eq : ∀ k : Fin 256, columnWord k = BitVec.ofNat 32 (if k.1 % 2 = 0 then k.1 / 2 else 128 + k.1 / 2) := by decide +kernel

theorem initPerm_at (i k : Fin 256) : initPerm (ix2 i k) = Scalar.select (IntOp.cmpi .eq (BitVec.ofNat 32 i.1) (columnWord k)) (1 : EReal) 0 := by
  pointwise [initPerm, k0_pay9, k0_pay6, k0_pay7, k0_pay8, columnWord]

theorem initPerm_isPerm : IsPerm initPerm := fun i k => by
  have hk : (if k.1 % 2 = 0 then k.1 / 2 else 128 + k.1 / 2) < 256 := by have := k.isLt; split <;> omega
  rw [initPerm_at, columnWord_eq]
  generalize (if k.1 % 2 = 0 then k.1 / 2 else 128 + k.1 / 2) = n at hk
  have hi := i.isLt
  by_cases h : i.1 = n
  · rw [if_pos h, h]; simp [Scalar.select, IntOp.cmpi]
  · have hb : ¬ BitVec.ofNat 32 i.1 = BitVec.ofNat 32 n := fun e => h (by have := congrArg BitVec.toNat e; simp at this; omega)
    have hb' : (BitVec.ofNat 32 i.1 == BitVec.ofNat 32 n) = false := beq_eq_false_iff_ne.2 hb
    rw [if_neg h]; simp [Scalar.select, IntOp.cmpi, hb']

theorem sliceCols_at (n : FVec Ideal S16x3584 .bf16) (o : Fin 28) (b : Fin 16) (k : Fin 128) :
    sliceCols n o (ix2 b k) = n (ix2 b ⟨128 * o.1 + k.1, by omega⟩) := by
  pointwise [sliceCols]

theorem storedPerm_eq : storedPerm = initPerm := by
  rw [storedPerm, View.canon_unit_zero (by funext a; fin_cases a <;> rfl)]
  exact shapeCast_self _ _

theorem interleaved_at (n : FVec Ideal S16x3584 .bf16) (p : Vec Ideal S256x256 .bf16) (g : Fin 14) (b : Fin 16) (l : Fin 256) :
    interleaved n p g (ix2 b l) = reorder (sliceCols n ⟨g.1, by omega⟩) (sliceCols n ⟨14 + g.1, by omega⟩) p (ix2 b l) := by
  pointwise [interleaved]

/-- Fourteen tiles of 256 columns, read back at an element. -/
theorem canon_tiles {e : EltTy} (P : Fin 14 → S16x256.Idx → Elt Ideal e) (b : Fin 16) (g : Fin 14) (l : Fin 256) :
    View.canon (Val := Elt Ideal) (s := S16x3584) (e := e) (List.ofFn fun k : Fin 14 => ⟨tileRect ⟨13 - k.1, by omega⟩, P ⟨13 - k.1, by omega⟩⟩)
      (ix2 b ⟨256 * g.1 + l.1, by omega⟩) = P g (ix2 b l) := by
  refine View.canon_ofFn_unit_eq_of_forall (S := S16x3584) (fun k : Fin 14 => ![0, 256 * (13 - k.1)]) S16x256.size (fun k => by fin_cases k <;> decide)
    (fun k : Fin 14 => P ⟨13 - k.1, by omega⟩) _ _ ⟨⟨13 - g.1, by omega⟩, fun a => ?_⟩ fun k x hx => ?_
  · have := g.isLt; have := l.isLt; have := b.isLt
    fin_cases a
    · exact ⟨Nat.zero_le _, show b.1 < 0 + 16 by omega⟩
    · show 256 * (13 - (13 - g.1)) ≤ 256 * g.1 + l.1 ∧ 256 * g.1 + l.1 < 256 * (13 - (13 - g.1)) + 256
      omega
  · have h0 : b.1 = 0 + (x 0).1 := hx 0
    have h1 : 256 * g.1 + l.1 = 256 * (13 - k.1) + (x 1).1 := hx 1
    have hl : (x 1).1 < 256 := (x 1).isLt
    have hg : (⟨13 - k.1, by omega⟩ : Fin 14) = g := Fin.ext (by show 13 - k.1 = g.1; omega)
    have hx' : x = ix2 b l := by
      have hg' : 13 - k.1 = g.1 := congrArg Fin.val hg
      funext a; refine Fin.ext ?_
      fin_cases a
      · show (x 0).1 = b.1; omega
      · show (x 1).1 = l.1; omega
    show P ⟨13 - k.1, _⟩ x = _
    rw [hg, hx']

/-- Five lanes, read back at an element. -/
theorem canon_lanes (P : Fin 5 → S1x16x64.Idx → EReal) (n : Fin 5) (b : Fin 16) (l : Fin 64) :
    View.canon (Val := Elt Ideal) (s := S5x16x64) (e := .f32) (List.ofFn fun k : Fin 5 => ⟨laneRect ⟨4 - k.1, by omega⟩, P ⟨4 - k.1, by omega⟩⟩)
      (ix3 n b l) = P n (ix3 0 b l) := by
  refine View.canon_ofFn_unit_eq_of_forall (S := S5x16x64) (fun k : Fin 5 => ![4 - k.1, 0, 0]) S1x16x64.size (fun k => by fin_cases k <;> decide)
    (Val := Elt Ideal) (e := .f32) (fun k : Fin 5 => P ⟨4 - k.1, by omega⟩) _ _ ⟨⟨4 - n.1, by omega⟩, fun a => ?_⟩ fun k x hx => ?_
  · have := n.isLt; have := l.isLt; have := b.isLt
    fin_cases a
    · show 4 - (4 - n.1) ≤ n.1 ∧ n.1 < 4 - (4 - n.1) + 1
      omega
    · exact ⟨Nat.zero_le _, show b.1 < 0 + 16 by omega⟩
    · exact ⟨Nat.zero_le _, show l.1 < 0 + 64 by omega⟩
  · have h0 : n.1 = 4 - k.1 + (x 0).1 := hx 0
    have h1 : b.1 = 0 + (x 1).1 := hx 1
    have h2 : l.1 = 0 + (x 2).1 := hx 2
    have hl : (x 0).1 < 1 := (x 0).isLt
    have hg : (⟨4 - k.1, by omega⟩ : Fin 5) = n := Fin.ext (by show 4 - k.1 = n.1; omega)
    have hx' : x = ix3 0 b l := by
      funext a; refine Fin.ext ?_
      fin_cases a
      · show (x 0).1 = 0; omega
      · show (x 1).1 = b.1; omega
      · show (x 2).1 = l.1; omega
    show P ⟨4 - k.1, _⟩ x = _
    rw [hg, hx']

theorem storedRows_at (x2 : Vec Ideal S12x3584 .bf16) (x3 : Vec Ideal S1x3584 .f32) (b : Fin 16) (g : Fin 14) (l : Fin 256) :
    storedRows x2 x3 (ix2 b ⟨256 * g.1 + l.1, by omega⟩) = interleaved (normed x2 x3) initPerm g (ix2 b l) := by
  unfold storedRows
  generalize normed x2 x3 = n
  exact canon_tiles (e := .bf16) (fun g => interleaved n initPerm g) b g l

/-- The stored rows interleave the normalised row's two halves. -/
theorem storedRows_isRows (x2 : Vec Ideal S12x3584 .bf16) (x3 : Vec Ideal S1x3584 .f32) (b : Fin 12) :
    Tile.IsRows (storedRows x2 x3) ⟨b.1, by omega⟩ (fun k => Spec.normAt (fun l => x2 (ix2 b l)) (x3 (ix2 0 k)) k) := fun g r => by
  constructor
  · rw [storedRows_at x2 x3 _ g ⟨2 * r.1, by omega⟩, interleaved_at, reorder_even initPerm_isPerm, sliceCols_at, normed_at]
  · rw [storedRows_at x2 x3 _ g ⟨2 * r.1 + 1, by omega⟩, interleaved_at, reorder_odd initPerm_isPerm, sliceCols_at]
    have e : (⟨128 * (14 + g.1) + r.1, by omega⟩ : Fin 3584) = ⟨1792 + (128 * g.1 + r.1), by omega⟩ := Fin.ext (by show 128 * (14 + g.1) + r.1 = 1792 + (128 * g.1 + r.1); omega)
    show normed x2 x3 (ix2 _ ⟨128 * (14 + g.1) + r.1, _⟩) = _
    rw [e, normed_at]

end Cert.KernelIdeal.Vocab

end
-- ==== Proof.Blocks.lean ====
/-
  The windows' blocks at a grid point, element by element, as elements of the arguments.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Steps

open Cert.KernelIdeal Cert.KernelIdeal.Gen Idealize.ShloMosaic Idealize.ShloMosaic.TcCoe Idealize.SL.Sem

/-- The grid has 37 points. -/
theorem lt_points (t : Fin cfg0.N) : t.val < 37 := lt_of_lt_of_eq t.isLt (by decide +kernel)

/-- A point's coordinate is its number. -/
theorem coord_eq : ∀ t : Fin cfg0.N, (grid0.coords t 0).val = t.val :=
  (by decide +kernel : ∀ t : Fin grid0.N, (grid0.coords t 0).val = t.val)

/-- The block indices of the inputs that are read whole. -/
theorem idxWhole : ∀ t : Fin cfg0.N, win0_0.index t = ![0] ∧ win0_1.index t = ![0] ∧ win0_2.index t = ![0, 0] ∧ win0_3.index t = ![0, 0]
    ∧ win0_4.index t = ![0, 0, 0] ∧ win0_16.index t = ![0, 0] ∧ win0_19.index t = ![0, 0, 0] :=
  (by decide +kernel : ∀ t : Fin grid0.N, _)

/-- The block indices of the up projection's codes, scales and adapters. -/
theorem idxUp : ∀ t : Fin cfg0.N, win0_5.index t = ![0, t.val] ∧ win0_6.index t = ![0, 37 + t.val] ∧ win0_7.index t = ![0, 74 + t.val]
    ∧ win0_8.index t = ![0, 111 + t.val] ∧ win0_9.index t = ![0, t.val] ∧ win0_10.index t = ![0, 37 + t.val] ∧ win0_11.index t = ![0, 74 + t.val]
    ∧ win0_12.index t = ![0, 111 + t.val] ∧ win0_13.index t = ![0, 0, 0, t.val] ∧ win0_14.index t = ![0, 0, 0, 37 + t.val] :=
  (by decide +kernel : ∀ t : Fin grid0.N, _)

/-- The block indices of the down projection's codes and adapters. -/
theorem idxDown : ∀ t : Fin cfg0.N, win0_15.index t = ![t.val, 0] ∧ win0_17.index t = ![0, t.val, 0] ∧ win0_18.index t = ![0, 37 + t.val, 0] :=
  (by decide +kernel : ∀ t : Fin grid0.N, _)

variable (m : (ℓ : Loc nD τ sig) → Buf (Elt Ideal) ℓ) (c : Dev nD) (t : Fin cfg0.N)

theorem words_at (b : Fin 12) : iblk m c 0 t (ix1 b) = m ((c : Thread nD τ).loc main_arg2) (ix1 b) := by
  blk_ext! [iblk, V, idxWhole t]
theorem factors_at (b : Fin 5) : iblk m c 1 t (ix1 b) = m ((c : Thread nD τ).loc main_arg11) (ix1 b) := by
  blk_ext! [iblk, V, idxWhole t]
theorem xrows_at (b : Fin 12) (k : Fin 3584) : iblk m c 2 t (ix2 b k) = m ((c : Thread nD τ).loc main_arg0) (ix3 b 0 k) := by
  blk_ext! [iblk, V, idxWhole t]
theorem gain_at (k : Fin 3584) : iblk m c 3 t (ix2 0 k) = m ((c : Thread nD τ).loc main_arg1) (ix1 k) := by
  blk_ext! [iblk, V, idxWhole t]
theorem shrink_at (a : Fin 5) (k : Fin 3584) (r : Fin 128) : iblk m c 4 t (ix3 a k r) = m ((c : Thread nD τ).loc main_arg7) (ix3 a k r) := by
  blk_ext! [iblk, V, idxWhole t]
theorem downScales_at (g : Fin 148) (d : Fin 3584) : iblk m c 16 t (ix2 g d) = m ((c : Thread nD τ).loc main_arg6) (ix2 g d) := by
  blk_ext! [iblk, V, idxWhole t]
theorem grow_at (a : Fin 5) (r : Fin 64) (d : Fin 3584) : iblk m c 19 t (ix3 a r d) = m ((c : Thread nD τ).loc main_arg10) (ix3 a r d) := by
  blk_ext! [iblk, V, idxWhole t]

theorem gateLow_at (r : Fin 1792) (l : Fin 256) : iblk m c 5 t (ix2 r l) = m ((c : Thread nD τ).loc main_arg3) (ix2 r ⟨256 * t.val + l.val, by have := lt_points t; omega⟩) := by
  blk_ext! [iblk, V, idxUp t]
theorem gateHigh_at (r : Fin 1792) (l : Fin 256) : iblk m c 6 t (ix2 r l) = m ((c : Thread nD τ).loc main_arg3) (ix2 r ⟨9472 + (256 * t.val + l.val), by have := lt_points t; omega⟩) := by
  blk_ext! [iblk, V, idxUp t]
theorem upLow_at (r : Fin 1792) (l : Fin 256) : iblk m c 7 t (ix2 r l) = m ((c : Thread nD τ).loc main_arg3) (ix2 r ⟨18944 + (256 * t.val + l.val), by have := lt_points t; omega⟩) := by
  blk_ext! [iblk, V, idxUp t]
theorem upHigh_at (r : Fin 1792) (l : Fin 256) : iblk m c 8 t (ix2 r l) = m ((c : Thread nD τ).loc main_arg3) (ix2 r ⟨18944 + (9472 + (256 * t.val + l.val)), by have := lt_points t; omega⟩) := by
  blk_ext! [iblk, V, idxUp t]
theorem gateLowScale_at (r : Fin 28) (l : Fin 256) : iblk m c 9 t (ix2 r l) = m ((c : Thread nD τ).loc main_arg4) (ix2 r ⟨256 * t.val + l.val, by have := lt_points t; omega⟩) := by
  blk_ext! [iblk, V, idxUp t]
theorem gateHighScale_at (r : Fin 28) (l : Fin 256) : iblk m c 10 t (ix2 r l) = m ((c : Thread nD τ).loc main_arg4) (ix2 r ⟨9472 + (256 * t.val + l.val), by have := lt_points t; omega⟩) := by
  blk_ext! [iblk, V, idxUp t]
theorem upLowScale_at (r : Fin 28) (l : Fin 256) : iblk m c 11 t (ix2 r l) = m ((c : Thread nD τ).loc main_arg4) (ix2 r ⟨18944 + (256 * t.val + l.val), by have := lt_points t; omega⟩) := by
  blk_ext! [iblk, V, idxUp t]
theorem upHighScale_at (r : Fin 28) (l : Fin 256) : iblk m c 12 t (ix2 r l) = m ((c : Thread nD τ).loc main_arg4) (ix2 r ⟨18944 + (9472 + (256 * t.val + l.val)), by have := lt_points t; omega⟩) := by
  blk_ext! [iblk, V, idxUp t]
theorem adapterLow_at (a : Fin 5) (e : Fin 2) (r : Fin 64) (l : Fin 256) : iblk m c 13 t (ix4 a e r l) = m ((c : Thread nD τ).loc main_arg8) (ix4 a e r ⟨256 * t.val + l.val, by have := lt_points t; omega⟩) := by
  blk_ext! [iblk, V, idxUp t]
theorem adapterHigh_at (a : Fin 5) (e : Fin 2) (r : Fin 64) (l : Fin 256) : iblk m c 14 t (ix4 a e r l) = m ((c : Thread nD τ).loc main_arg8) (ix4 a e r ⟨9472 + (256 * t.val + l.val), by have := lt_points t; omega⟩) := by
  blk_ext! [iblk, V, idxUp t]
theorem down_at (r : Fin 256) (d : Fin 3584) : iblk m c 15 t (ix2 r d) = m ((c : Thread nD τ).loc main_arg5) (ix2 ⟨256 * t.val + r.val, by have := lt_points t; omega⟩ d) := by
  blk_ext! [iblk, V, idxDown t]
theorem shrinkLow_at (a : Fin 5) (k : Fin 256) (r : Fin 64) : iblk m c 17 t (ix3 a k r) = m ((c : Thread nD τ).loc main_arg9) (ix3 a ⟨256 * t.val + k.val, by have := lt_points t; omega⟩ r) := by
  blk_ext! [iblk, V, idxDown t]
theorem shrinkHigh_at (a : Fin 5) (k : Fin 256) (r : Fin 64) : iblk m c 18 t (ix3 a k r) = m ((c : Thread nD τ).loc main_arg9) (ix3 a ⟨9472 + (256 * t.val + k.val), by have := lt_points t; omega⟩ r) := by
  blk_ext! [iblk, V, idxDown t]

end Cert.KernelIdeal.Steps

end
-- ==== Proof.StoredAt.lean ====
/-
  What a grid point stores, element by element, from the hidden tiles and what the point found.
-/
module

public import proofs.«01_k».proof.Proof.InitAt
public import proofs.«01_k».proof.Proof.Points
public import proofs.«01_k».proof.Proof.Blocks

@[expose] public section

set_option maxRecDepth 16384

noncomputable section

namespace Cert.KernelIdeal.Steps

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)
  (xi : Vec Ideal S16x3584 .bf16) (co : Vec Ideal S2x16x320 .bf16) (p : Vec Ideal S256x256 .bf16) (y : Vec Ideal S16x3584 .f32)
  (sc : Vec Ideal S74x2x3584 .bf16) (a : Vec Ideal S5x16x64 .f32)

theorem storedTile_at (h : FVec Ideal S16x256 .bf16) (b : Fin 12) (l : Fin 256) : storedTile h (ix2 b l) = h (ix2 ⟨b.1, by omega⟩ l) := by
  rw [storedTile, View.canon_unit_zero (by funext a; fin_cases a <;> rfl)]
  exact Vocab.hiddenRows_at h b l

/-- A point's share of the down projection's sums. -/
def downShare (b : Fin 16) (d : Fin 3584) : EReal :=
  ∑ r : Fin 256, ((lowHidden m c t xi co) (ix2 b r) * (Spec.low (iblk m c 15 t (ix2 r d)) * sc (ix3 ⟨2 * t.val + r.val / 128, by have := lt_points t; omega⟩ 0 d))
    + (highHidden m c t xi co) (ix2 b r) * (Spec.high (iblk m c 15 t (ix2 r d)) * sc (ix3 ⟨2 * t.val + r.val / 128, by have := lt_points t; omega⟩ 1 d)))

theorem downTile_stored (hp : Vocab.IsPerm p) (n : Fin 14) (b : Fin 16) (l : Fin 256) :
    Vocab.downTile (View.ld y (Vocab.tileRect n)) (firstGroup m c t xi co p) (secondGroup m c t xi co p)
      (Vocab.scalePair sc (grid0.coords t) 0) (Vocab.scalePair sc (grid0.coords t) 1) (iblk m c 15 t) n (ix2 b l)
      = y (ix2 b ⟨256 * n.1 + l.1, by omega⟩) + downShare m c t xi co sc b ⟨256 * n.1 + l.1, by omega⟩ := by
  have hc := coord_eq t
  have ht := lt_points t
  have hp' := Vocab.wholePerm_isPerm hp
  have s0 : ∀ (e : Fin 2) (d : Fin 3584), Vocab.scalePair sc (grid0.coords t) 0 (ix3 0 e d) = sc (ix3 ⟨2 * t.val, by omega⟩ e d) := fun e d => by
    refine (Vocab.scalePair_at sc _ 0 e d (by simp; omega)).trans (congrArg (fun i => sc (ix3 i e d)) (Fin.ext ?_)); simp [hc]
  have s1 : ∀ (e : Fin 2) (d : Fin 3584), Vocab.scalePair sc (grid0.coords t) 1 (ix3 0 e d) = sc (ix3 ⟨2 * t.val + 1, by omega⟩ e d) := fun e d => by
    refine (Vocab.scalePair_at sc _ 1 e d (by simp; omega)).trans (congrArg (fun i => sc (ix3 i e d)) (Fin.ext ?_)); simp [hc]
  have hy : View.ld y (Vocab.tileRect n) (ix2 b l) = y (ix2 b ⟨256 * n.1 + l.1, by omega⟩) :=
    View.ld_unit_apply_of _ _ _ _ _ _ (fun a => by fin_cases a <;> simp [ix2])
  refine (Vocab.downTile_at _ _ _ _ _ _ n b l).trans ?_
  rw [hy, downShare, ← Sums.sum_blocks (n := 2) (m := 128) (N := 256) rfl, Fin.sum_univ_two, add_assoc]
  refine congrArg (_ + ·) (congrArg₂ (· + ·) (Finset.sum_congr rfl fun r _ => ?_) (Finset.sum_congr rfl fun r _ => ?_))
  · rw [firstGroup, Vocab.reorder_even hp', Vocab.reorder_odd hp', Vocab.firstCols_at, Vocab.firstCols_at, s0, s0]
    have e1 : 128 * (0 : Fin 2).1 + r.1 = r.1 := by simp
    have e2 : r.1 / 128 = 0 := by omega
    simp only [e1, e2, add_zero]
  · rw [secondGroup, Vocab.reorder_even hp', Vocab.reorder_odd hp', Vocab.lastCols_at, Vocab.lastCols_at, s1, s1]
    have e1 : 128 * (1 : Fin 2).1 + r.1 = 128 + r.1 := by simp
    have e2 : (128 + r.1) / 128 = 1 := by omega
    simp only [e1, e2]

theorem storedDown_at (hp : Vocab.IsPerm p) (b : Fin 16) (d : Fin 3584) :
    storedDown m c t xi co p y sc (ix2 b d) = y (ix2 b d) + downShare m c t xi co sc b d := by
  obtain ⟨n, l, rfl⟩ : ∃ (n : Fin 14) (l : Fin 256), d = ⟨256 * n.1 + l.1, by omega⟩ :=
    ⟨⟨d.1 / 256, by omega⟩, ⟨d.1 % 256, by omega⟩, Fin.ext (Nat.div_add_mod d.1 256).symm⟩
  rw [← downTile_stored m c t xi co p y sc hp n b l]
  exact Vocab.canon_tiles (e := .f32) (fun n => Vocab.downTile (View.ld y (Vocab.tileRect n)) (firstGroup m c t xi co p) (secondGroup m c t xi co p)
      (Vocab.scalePair sc (grid0.coords t) 0) (Vocab.scalePair sc (grid0.coords t) 1) (iblk m c 15 t) n) b n l

/-- A point's share of the low-rank coefficients. -/
def coefShare (n : Fin 5) (b : Fin 16) (r : Fin 64) : EReal :=
  (∑ k, (lowHidden m c t xi co) (ix2 b k) * iblk m c 17 t (ix3 n k r)) + ∑ k, (highHidden m c t xi co) (ix2 b k) * iblk m c 18 t (ix3 n k r)

theorem coefTile_stored (n : Fin 5) (b : Fin 16) (r : Fin 64) :
    Vocab.coefTile (View.ld a (Vocab.laneRect n)) (lowHidden m c t xi co) (highHidden m c t xi co) (iblk m c 17 t) (iblk m c 18 t) n (ix3 0 b r)
      = a (ix3 n b r) + coefShare m c t xi co n b r := by
  refine (Vocab.coefTile_at _ _ _ _ _ n b r).trans ?_
  rw [coefShare]
  refine congrArg (· + _) ?_
  exact View.ld_unit_apply_of _ _ _ _ _ _ (fun a => by fin_cases a <;> simp [ix3])

theorem storedAdd_at (n : Fin 5) (b : Fin 16) (r : Fin 64) :
    storedAdd m c t xi co a (ix3 n b r) = a (ix3 n b r) + coefShare m c t xi co n b r := by
  rw [← coefTile_stored m c t xi co a n b r]
  exact Vocab.canon_lanes (fun n => Vocab.coefTile (View.ld a (Vocab.laneRect n)) (lowHidden m c t xi co) (highHidden m c t xi co) (iblk m c 17 t) (iblk m c 18 t) n) n b r

end Cert.KernelIdeal.Steps

end
-- ==== Proof.Hidden.lean ====
/-
  The hidden tiles of a grid point and the point's shares of the later sums, as the mathematics of the arguments.
-/
module

public import proofs.«01_k».proof.Proof.StoredAt

@[expose] public section

set_option maxRecDepth 16384

noncomputable section

namespace Cert.KernelIdeal.Steps

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)
  (xi : Vec Ideal S16x3584 .bf16) (co : Vec Ideal S2x16x320 .bf16) (sc : Vec Ideal S74x2x3584 .bf16)

/-- A device's arguments. -/
def argsAt : Spec.Args :=
  Spec.argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The rows, the coefficients and the scales are those of the arguments. -/
structure Holds : Prop where
  rows : ∀ b : Fin 12, Tile.IsRows xi ⟨b.1, by omega⟩ (Spec.xn (argsAt m c) b)
  coefs : ∀ b : Fin 12, Tile.IsCoefs co ⟨b.1, by omega⟩ ((argsAt m c).ad b) (Spec.s (argsAt m c) b)
  scales : ∀ (g : Fin 74) (e : Fin 2) (d : Fin 3584), sc (ix3 g e d) = (argsAt m c).sdn ⟨74 * e.1 + g.1, by omega⟩ d

variable {m c xi co sc}

theorem lowHidden_at (h : Holds m c xi co sc) (b : Fin 12) (l : Fin 256) :
    lowHidden m c t xi co (ix2 ⟨b.1, by omega⟩ l) = Spec.h (argsAt m c) b ⟨256 * t.val + l.val, by have := lt_points t; omega⟩ := by
  rw [lowHidden, Vocab.hidden_at, Tile.gateUp_at _ _ _ _ _ _ _ _ (h.rows b) (h.coefs b), Tile.gateUp_at _ _ _ _ _ _ _ _ (h.rows b) (h.coefs b)]
  simp only [gateLow_at, upLow_at, gateLowScale_at, upLowScale_at, adapterLow_at]
  rfl

theorem highHidden_at (h : Holds m c xi co sc) (b : Fin 12) (l : Fin 256) :
    highHidden m c t xi co (ix2 ⟨b.1, by omega⟩ l) = Spec.h (argsAt m c) b ⟨9472 + (256 * t.val + l.val), by have := lt_points t; omega⟩ := by
  rw [highHidden, Vocab.hidden_at, Tile.gateUp_at _ _ _ _ _ _ _ _ (h.rows b) (h.coefs b), Tile.gateUp_at _ _ _ _ _ _ _ _ (h.rows b) (h.coefs b)]
  simp only [gateHigh_at, upHigh_at, gateHighScale_at, upHighScale_at, adapterHigh_at]
  rfl

variable (m c)

/-- The down projection's sum over the 256 rows of point `j`. -/
def downSum (b : Fin 12) (d : Fin 3584) (j : Fin 37) : EReal :=
  ∑ r : Fin 256, (Spec.h (argsAt m c) b ⟨256 * j.1 + r.1, by omega⟩ * Spec.dlo (argsAt m c) ⟨256 * j.1 + r.1, by omega⟩ d
    + Spec.h (argsAt m c) b ⟨9472 + (256 * j.1 + r.1), by omega⟩ * Spec.dhi (argsAt m c) ⟨256 * j.1 + r.1, by omega⟩ d)

/-- The sum for adapter `n`'s coefficients over the columns of point `j`. -/
def coefSum (n : Fin 5) (b : Fin 12) (r : Fin 64) (j : Fin 37) : EReal :=
  (∑ k : Fin 256, Spec.h (argsAt m c) b ⟨256 * j.1 + k.1, by omega⟩ * (argsAt m c).adn n ⟨256 * j.1 + k.1, by omega⟩ r)
    + ∑ k : Fin 256, Spec.h (argsAt m c) b ⟨9472 + (256 * j.1 + k.1), by omega⟩ * (argsAt m c).adn n ⟨9472 + (256 * j.1 + k.1), by omega⟩ r

variable {m c}

theorem downShare_at (h : Holds m c xi co sc) (b : Fin 12) (d : Fin 3584) :
    downShare m c t xi co sc ⟨b.1, by omega⟩ d = downSum m c b d ⟨t.val, lt_points t⟩ := by
  rw [downShare, downSum]
  refine Finset.sum_congr rfl fun r _ => ?_
  have ht := lt_points t
  rw [lowHidden_at t h, highHidden_at t h, down_at, h.scales, h.scales, Spec.dlo, Spec.dhi]
  have e1 : (256 * t.val + r.val) / 128 = 2 * t.val + r.val / 128 := by omega
  have e2 : 74 * (0 : Fin 2).1 + (2 * t.val + r.val / 128) = 2 * t.val + r.val / 128 := by simp
  have e3 : 74 * (1 : Fin 2).1 + (2 * t.val + r.val / 128) = 74 + (2 * t.val + r.val / 128) := by simp
  simp only [e1, e2, e3]
  rfl

theorem coefShare_at (h : Holds m c xi co sc) (n : Fin 5) (b : Fin 12) (r : Fin 64) :
    coefShare m c t xi co n ⟨b.1, by omega⟩ r = coefSum m c n b r ⟨t.val, lt_points t⟩ := by
  rw [coefShare, coefSum]
  simp only [lowHidden_at t h, highHidden_at t h, shrinkLow_at, shrinkHigh_at]
  rfl

/-- All points' sums are the down projection. -/
theorem downSum_total (b : Fin 12) (d : Fin 3584) : ∑ j, downSum m c b d j = Spec.y (argsAt m c) b d := by
  unfold downSum
  simp only [Finset.sum_add_distrib]
  rw [Spec.y, ← Sums.sum_blocks (n := 37) (m := 256) rfl, ← Sums.sum_blocks (n := 37) (m := 256) rfl]

/-- All points' sums for one adapter are the sum over the hidden columns. -/
theorem coefSum_total (n : Fin 5) (b : Fin 12) (r : Fin 64) :
    ∑ j, coefSum m c n b r j = ∑ f, Spec.h (argsAt m c) b f * (argsAt m c).adn n f r := by
  unfold coefSum
  rw [Finset.sum_add_distrib, Sums.sum_halves (n := 9472) rfl, ← Sums.sum_blocks (n := 37) (m := 256) rfl, ← Sums.sum_blocks (n := 37) (m := 256) rfl]

end Cert.KernelIdeal.Steps

end
-- ==== Proof.RowsAt.lean ====
/-
  Each row's adapter and factor, and the low-rank coefficients, element by element.
-/
module

public import proofs.«01_k».proof.Proof.Tile
public import proofs.«01_k».proof.Proof.Final

@[expose] public section

set_option maxRecDepth 16384

noncomputable section

namespace Cert.KernelIdeal.Vocab

open Cert.KernelIdeal Cert.KernelIdeal.Gen Idealize.ShloMosaic

theorem wordOf_eq (x0 : Vec Ideal S12 .i32) (b : Fin 12) : wordOf x0 b = x0 (ix1 b) :=
  View.ld_unit_apply_of _ _ _ _ _ _ (fun a => by fin_cases a; simp [ix1])

theorem rowWord_at (x0 : Vec Ideal S12 .i32) (b : Fin 12) : rowWord x0 (ix2 ⟨b.1, by omega⟩ 0) = x0 (ix1 b) := by
  pointwise [rowWord, k0_pay34, k0_pay33]
  refine Eq.trans ?_ (wordOf_eq x0 b)
  fin_cases b <;> rfl

theorem factorOf_eq (x0 : Vec Ideal S12 .i32) (x1 : Vec Ideal S5 .f32) (b : Fin 12) (a : Fin 5) (h : (x0 (ix1 b) : BitVec 32).toNat = a.1) :
    factorOf x0 x1 b = x1 (ix1 a) := by
  have e : BitVec.toNat (Scalar.indexCast (wordOf x0 b)) = a.1 := by rw [wordOf_eq]; exact h
  rw [factorOf, e, pick, dif_pos a.isLt]

theorem rowFactor_at (x0 : Vec Ideal S12 .i32) (x1 : Vec Ideal S5 .f32) (b : Fin 12) : rowFactor x0 x1 (ix2 ⟨b.1, by omega⟩ 0) = factorOf x0 x1 b := by
  pointwise [rowFactor, k0_pay41, k0_pay40, k0_pay39, k0_pay38, k0_pay37, k0_pay36, k0_pay35]
  fin_cases b <;> rfl

/-- Choosing among five values by a word below five. -/
def choose (w : BitVec 32) (v : Fin 5 → EReal) : EReal :=
  Scalar.select (IntOp.cmpi .eq w 4#32) (v 4) (Scalar.select (IntOp.cmpi .eq w 3#32) (v 3) (Scalar.select (IntOp.cmpi .eq w 2#32) (v 2)
    (Scalar.select (IntOp.cmpi .eq w 1#32) (v 1) (Scalar.select (IntOp.cmpi .eq w 0#32) (v 0) 0))))

theorem word_eq {w : BitVec 32} {a : Fin 5} (h : w.toNat = a.1) : w = BitVec.ofNat 32 a.1 := by
  apply BitVec.eq_of_toNat_eq
  have := a.isLt
  rw [h, BitVec.toNat_ofNat, Nat.mod_eq_of_lt (by omega)]

theorem choose_eq {w : BitVec 32} {a : Fin 5} (h : w.toNat = a.1) (v : Fin 5 → EReal) : choose w v = v a := by
  rw [word_eq h]
  fin_cases a <;> rfl

theorem mask_eq {w : BitVec 32} {a : Fin 5} (h : w.toNat = a.1) (n : Fin 5) (v : EReal) :
    Scalar.select (IntOp.cmpi .eq w (BitVec.ofNat 32 n.1)) v 0 = (if a = n then 1 else 0) * v := by
  rw [word_eq h]
  have e : Scalar.select (IntOp.cmpi .eq (BitVec.ofNat 32 a.1) (BitVec.ofNat 32 n.1)) v 0 = if a = n then v else 0 := by
    fin_cases a <;> fin_cases n <;> rfl
  rw [e]; split <;> simp

theorem adapterMat_at (x4 : Vec Ideal S5x3584x128 .bf16) (n : Fin 5) (k : Fin 3584) (r : Fin 128) : adapterMat x4 n (ix3 0 k r) = x4 (ix3 n k r) :=
  View.ld_unit_apply_of _ _ _ _ _ _ (fun a => by fin_cases a <;> simp [ix3])

theorem shrunk_choose (x0 : Vec Ideal S12 .i32) (x1 : Vec Ideal S5 .f32) (n : FVec Ideal S16x3584 .bf16) (x4 : Vec Ideal S5x3584x128 .bf16)
    (b : Fin 16) (r : Fin 128) : shrunk x0 x1 n x4 (ix2 b r)
      = choose (rowWord x0 (ix2 b 0)) (fun a => ∑ k, n (ix2 b k) * x4 (ix3 a k r)) * rowFactor x0 x1 (ix2 b 0) := by
  rw [shrunk]
  generalize rowWord x0 = w
  generalize rowFactor x0 x1 = f
  pointwise [k0_pay44, k0_pay43, k0_pay42, choose]
  simp only [adapterMat_at]

theorem shrunk_at (x0 : Vec Ideal S12 .i32) (x1 : Vec Ideal S5 .f32) (n : FVec Ideal S16x3584 .bf16) (x4 : Vec Ideal S5x3584x128 .bf16)
    (b : Fin 12) (a : Fin 5) (h : (x0 (ix1 b) : BitVec 32).toNat = a.1) (r : Fin 128) :
    shrunk x0 x1 n x4 (ix2 ⟨b.1, by omega⟩ r) = (∑ k, n (ix2 ⟨b.1, by omega⟩ k) * x4 (ix3 a k r)) * x1 (ix1 a) := by
  rw [shrunk_choose, rowWord_at, rowFactor_at, choose_eq h, factorOf_eq x0 x1 b a h]

/-- The row's coefficients at adapter `n` of a half: the row's own, or zero. -/
theorem pay47_at (w : IVec S16x1 32) (s : FVec Ideal S16x128 .f32) (b : Fin 16) (n : Fin 5) (r : Fin 64) :
    k0_pay47 w s (ix2 b ⟨64 * n.1 + r.1, by omega⟩)
      = Scalar.select (IntOp.cmpi .eq (w (ix2 b 0)) (BitVec.ofNat 32 n.1)) (s (ix2 b ⟨r.1, by omega⟩) : EReal) 0 := by
  have := r.isLt
  fin_cases n <;> pointwise [k0_pay47, k0_pay45]
  all_goals
    repeat first | rw [dif_neg (by omega)] | rw [dif_pos (by omega)]
    refine congrArg (fun i => Scalar.select _ (s (ix2 b i)) 0) (Fin.ext ?_)
    simp only []
    omega

theorem pay49_at (w : IVec S16x1 32) (s : FVec Ideal S16x128 .bf16) (b : Fin 16) (n : Fin 5) (r : Fin 64) :
    k0_pay49 w s (ix2 b ⟨64 * n.1 + r.1, by omega⟩)
      = Scalar.select (IntOp.cmpi .eq (w (ix2 b 0)) (BitVec.ofNat 32 n.1)) (s (ix2 b ⟨64 + r.1, by omega⟩) : EReal) 0 := by
  have := r.isLt
  fin_cases n <;> pointwise [k0_pay49]
  all_goals
    repeat first | rw [dif_neg (by omega)] | rw [dif_pos (by omega)]
    refine congrArg (fun i => Scalar.select _ (s (ix2 b i)) 0) (Fin.ext ?_)
    simp only []
    omega

theorem finalCoefs_choose (x0 : Vec Ideal S12 .i32) (x1 : Vec Ideal S5 .f32) (a : Vec Ideal S5x16x64 .f32) (b : Fin 16) (r : Fin 64) :
    finalCoefs x0 x1 a (ix2 b r) = choose (rowWord x0 (ix2 b 0)) (fun n => laneOf a n (ix3 0 b r)) * rowFactor x0 x1 (ix2 b 0) := by
  rw [finalCoefs]
  generalize rowWord x0 = w
  generalize rowFactor x0 x1 = f
  pointwise [k0_pay57, k0_pay56, k0_pay55, choose]

theorem laneOf_at (a : Vec Ideal S5x16x64 .f32) (n : Fin 5) (b : Fin 16) (r : Fin 64) : laneOf a n (ix3 0 b r) = a (ix3 n b r) :=
  View.ld_unit_apply_of _ _ _ _ _ _ (fun a => by fin_cases a <;> simp [ix3])

theorem finalCoefs_at (x0 : Vec Ideal S12 .i32) (x1 : Vec Ideal S5 .f32) (v : Vec Ideal S5x16x64 .f32)
    (b : Fin 12) (a : Fin 5) (h : (x0 (ix1 b) : BitVec 32).toNat = a.1) (r : Fin 64) :
    finalCoefs x0 x1 v (ix2 ⟨b.1, by omega⟩ r) = v (ix3 a ⟨b.1, by omega⟩ r) * x1 (ix1 a) := by
  rw [finalCoefs_choose, rowWord_at, rowFactor_at, choose_eq h, factorOf_eq x0 x1 b a h, laneOf_at]

theorem growOf_at (x19 : Vec Ideal S5x64x3584 .bf16) (n : Fin 5) (r : Fin 64) (d : Fin 3584) : growOf x19 n (ix3 0 r d) = x19 (ix3 n r d) :=
  View.ld_unit_apply_of _ _ _ _ _ _ (fun a => by fin_cases a <;> simp [ix3])

theorem growDot_at (w : IVec S16x1 32) (t : FVec Ideal S16x64 .bf16) (x19 : Vec Ideal S5x64x3584 .bf16) (n : Fin 5) (b : Fin 16) (d : Fin 3584) :
    growDot w t x19 n (ix2 b d)
      = ∑ r, Scalar.select (IntOp.cmpi .eq (w (ix2 b 0)) (BitVec.ofNat 32 n.1)) (t (ix2 b r) : EReal) 0 * x19 (ix3 n r d) := by
  pointwise [growDot]
  simp only [growOf_at]

theorem coefRows_at (t : FVec Ideal S16x64 .bf16) (b : Fin 12) (r : Fin 64) : coefRows t (ix2 b r) = t (ix2 ⟨b.1, by omega⟩ r) := by
  pointwise [coefRows]

theorem growSum_at (x0 : Vec Ideal S12 .i32) (t : FVec Ideal S16x64 .bf16) (x19 : Vec Ideal S5x64x3584 .bf16) (b : Fin 12) (a : Fin 5)
    (h : (x0 (ix1 b) : BitVec 32).toNat = a.1) (d : Fin 3584) :
    (∑ n : Fin 5, growDot (rowWord x0) t x19 n (ix2 ⟨b.1, by omega⟩ d)) = ∑ r, t (ix2 ⟨b.1, by omega⟩ r) * x19 (ix3 a r d) := by
  simp only [growDot_at, rowWord_at, mask_eq h, mul_assoc]
  exact Spec.sum_onehot_left a fun n r => t (ix2 ⟨b.1, by omega⟩ r) * x19 (ix3 n r d)

theorem finalRows_at (x0 : Vec Ideal S12 .i32) (t : FVec Ideal S16x64 .bf16) (y : Vec Ideal S16x3584 .f32) (x19 : Vec Ideal S5x64x3584 .bf16)
    (xf : Vec Ideal S16x3584 .f32) (b : Fin 12) (a : Fin 5) (h : (x0 (ix1 b) : BitVec 32).toNat = a.1) (d : Fin 3584) :
    finalRows (rowWord x0) t y x19 xf (ix2 b d) = xf (ix2 ⟨b.1, by omega⟩ d)
      + (y (ix2 ⟨b.1, by omega⟩ d) + ∑ r, t (ix2 ⟨b.1, by omega⟩ r) * x19 (ix3 a r d)) := by
  rw [← growSum_at x0 t x19 b a h d, Fin.sum_univ_five]
  have e : ∀ (x : Vec Ideal S16x3584 .f32) (b : Fin 16), wholeRows x (ix2 b d) = x (ix2 b d) := fun x b =>
    View.ld_unit_apply_of _ _ _ _ _ _ (fun a => by fin_cases a <;> simp [ix2])
  pointwise [finalRows]
  simp only [e, add_assoc]

theorem pay48_at (p : FVec Ideal S16x320 .bf16) (b : Fin 16) (k : Fin 320) : k0_pay48 p (ix3 0 b k) = p (ix2 b k) := by
  pointwise [k0_pay48]
theorem pay64_at (p : FVec Ideal S16x320 .bf16) (b : Fin 16) (k : Fin 320) : k0_pay64 p (ix3 0 b k) = p (ix2 b k) := by
  pointwise [k0_pay64]

theorem storedCoefs_upper (x0 : Vec Ideal S12 .i32) (s : FVec Ideal S16x128 .f32) (b : Fin 16) (k : Fin 320) :
    storedCoefs x0 s (ix3 1 b k) = k0_pay49 (rowWord x0) (k0_pay45 s) (ix2 b k) := by
  have e : (ix3 1 b k : S2x16x320.Idx) = (Rect.unit (s := S2x16x320) ![1, 0, 0] S1x16x320.size inb_S2x16x320_S1x16x320_1_0_0).emb (ix3 0 b k) := by
    funext a; refine Fin.ext ?_; fin_cases a
    · rfl
    · show b.1 = 0 + 1 * b.1; omega
    · show k.1 = 0 + 1 * k.1; omega
  rw [e, storedCoefs, View.canon_cons_emb, pay64_at]

theorem storedCoefs_lower (x0 : Vec Ideal S12 .i32) (s : FVec Ideal S16x128 .f32) (b : Fin 16) (k : Fin 320) :
    storedCoefs x0 s (ix3 0 b k) = k0_pay47 (rowWord x0) s (ix2 b k) := by
  have e : (ix3 0 b k : S2x16x320.Idx) = (Rect.unit (s := S2x16x320) ![0, 0, 0] S1x16x320.size inb_S2x16x320_S1x16x320_0_0_0).emb (ix3 0 b k) := by
    funext a; refine Fin.ext ?_; fin_cases a
    · rfl
    · show b.1 = 0 + 1 * b.1; omega
    · show k.1 = 0 + 1 * k.1; omega
  rw [storedCoefs, View.canon_cons_of_not_mem, e, View.canon_cons_emb, pay48_at]
  intro hm
  have := ((Rect.mem_set_unit (s := S2x16x320) (off := ![1, 0, 0]) (size := S1x16x320.size) (inb := inb_S2x16x320_S1x16x320_1_0_0)).1 hm 0).1
  exact absurd this (by show ¬ 1 ≤ 0; decide)

/-- The stored coefficients hold the row's own at its adapter and zero elsewhere. -/
theorem storedCoefs_isCoefs (x0 : Vec Ideal S12 .i32) (s : FVec Ideal S16x128 .f32) (b : Fin 12) (a : Fin 5) (h : (x0 (ix1 b) : BitVec 32).toNat = a.1) :
    Tile.IsCoefs (storedCoefs x0 s) ⟨b.1, by omega⟩ a (fun r => s (ix2 ⟨b.1, by omega⟩ r)) := fun half n r => by
  match half with
  | 0 =>
    rw [storedCoefs_lower, pay47_at, rowWord_at, mask_eq h]
    simp only [Fin.val_zero, Nat.mul_zero, Nat.zero_add]
  | 1 =>
    rw [storedCoefs_upper, pay49_at, rowWord_at, mask_eq h]
    simp only [Fin.val_one, Nat.mul_one]
    rfl

theorem storedScales_at (x16 : Vec Ideal S148x3584 .bf16) (g : Fin 74) (e : Fin 2) (d : Fin 3584) :
    storedScales x16 (ix3 g e d) = x16 (ix2 ⟨74 * e.1 + g.1, by omega⟩ d) := by
  rw [storedScales, View.canon_unit_zero (by funext a; fin_cases a <;> rfl)]
  have hl : ∀ k : Fin 148, View.ld x16 (Rect.unit (s := S148x3584) ![0, 0] S148x3584.size inb_S148x3584_S148x3584_0_0) (ix2 k d) = x16 (ix2 k d) := fun k =>
    View.ld_unit_apply_of _ _ _ _ _ _ (fun a => by fin_cases a <;> simp [ix2])
  generalize View.ld x16 (Rect.unit (s := S148x3584) ![0, 0] S148x3584.size inb_S148x3584_S148x3584_0_0) = X at hl
  rw [← hl]
  fin_cases e <;> pointwise [k0_pay65]

end Cert.KernelIdeal.Vocab

end
-- ==== Proof.FirstPoint.lean ====
/-
  What the first grid point writes, as the mathematics of the arguments.
-/
module

public import proofs.«01_k».proof.Proof.Hidden
public import proofs.«01_k».proof.Proof.RowsAt

@[expose] public section

set_option maxRecDepth 16384

noncomputable section

namespace Cert.KernelIdeal.Steps

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- Every row's adapter word names an adapter. -/
def WordsOk : Prop := ∀ b : Fin 12, (m ((c : Thread nD τ).loc main_arg2) (ix1 b) : BitVec 32).toNat < 5

/-- The normalised rows, the low-rank products and the coefficients the first point computes. -/
abbrev firstNormed : FVec Ideal S16x3584 .bf16 := Vocab.normed (iblk m c 2 t) (iblk m c 3 t)
abbrev firstShrunk : FVec Ideal S16x128 .f32 := Vocab.shrunk (iblk m c 0 t) (iblk m c 1 t) (firstNormed m c t) (iblk m c 4 t)

variable {m c} (hw : WordsOk m c)
include hw

theorem adapter_at (b : Fin 12) : (iblk m c 0 t (ix1 b) : BitVec 32).toNat = ((argsAt m c).ad b).1 := by
  rw [words_at]; exact (Nat.mod_eq_of_lt (hw b)).symm

omit hw in
theorem firstNormed_at (b : Fin 12) (k : Fin 3584) : firstNormed m c t (ix2 ⟨b.1, by omega⟩ k) = Spec.xn (argsAt m c) b k := by
  rw [firstNormed, Vocab.normed_at]
  simp only [xrows_at, gain_at]
  rfl

theorem firstShrunk_at (b : Fin 12) (r : Fin 128) : firstShrunk m c t (ix2 ⟨b.1, by omega⟩ r) = Spec.s (argsAt m c) b r := by
  rw [firstShrunk, Vocab.shrunk_at _ _ _ _ b _ (adapter_at t hw b)]
  simp only [firstNormed_at, shrink_at, factors_at]
  rfl

theorem firstHolds : Holds m c (Vocab.storedRows (iblk m c 2 t) (iblk m c 3 t)) (Vocab.storedCoefs (iblk m c 0 t) (firstShrunk m c t))
    (Vocab.storedScales (iblk m c 16 t)) where
  rows b := by
    have h := Vocab.storedRows_isRows (iblk m c 2 t) (iblk m c 3 t) b
    have e : (fun k => Spec.normAt (fun l => iblk m c 2 t (ix2 b l)) (iblk m c 3 t (ix2 0 k)) k) = Spec.xn (argsAt m c) b := by
      funext k; simp only [xrows_at, gain_at]; rfl
    exact e ▸ h
  coefs b := by
    have h := Vocab.storedCoefs_isCoefs (iblk m c 0 t) (firstShrunk m c t) b _ (adapter_at t hw b)
    have e : (fun r => firstShrunk m c t (ix2 ⟨b.1, by omega⟩ r)) = Spec.s (argsAt m c) b := funext fun r => firstShrunk_at t hw b r
    exact e ▸ h
  scales g e d := by rw [Vocab.storedScales_at, downScales_at]; rfl

end Cert.KernelIdeal.Steps

end
-- ==== Proof.Overlay.lean ====
/-
  Pieces stored over a whole buffer that was filled first: where they cover, the fill is not read.
-/
module

public import proofs.«01_k».proof.Proof.InitAt

@[expose] public section

set_option maxRecDepth 16384

noncomputable section

namespace Cert.KernelIdeal.Vocab

open Cert.KernelIdeal Cert.KernelIdeal.Gen Idealize.ShloMosaic

/-- An element some later piece covers is not read from the earlier pieces. -/
theorem canon_append_left {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' y L ?_
      obtain ⟨q, hq, hy⟩ := h
      rcases List.mem_cons.mp hq with rfl | hq
      · exact absurd hy hm
      · exact ⟨q, hq, hy⟩

theorem canon_tiles_over (P : (k : Fin 14) → (tileRect ⟨13 - k.1, by omega⟩).shape.Idx → Elt Ideal .f32) (Z : List (View.Piece (Elt Ideal) S16x3584 .f32)) (b : Fin 16) (d : Fin 3584) :
    View.canon (Val := Elt Ideal) ((List.ofFn fun k : Fin 14 => ⟨tileRect ⟨13 - k.1, by omega⟩, P k⟩) ++ Z) (ix2 b d)
      = View.canon (Val := Elt Ideal) (List.ofFn fun k : Fin 14 => ⟨tileRect ⟨13 - k.1, by omega⟩, P k⟩) (ix2 b d) := by
  refine canon_append_left Z _ _ ⟨_, List.mem_ofFn.mpr ⟨⟨13 - d.1 / 256, by omega⟩, rfl⟩, ?_⟩
  refine (Rect.mem_set_unit (s := S16x3584) (off := ![0, 256 * (13 - (13 - d.1 / 256))]) (size := S16x256.size) (inb := fun a => by
    fin_cases a
    · show 0 + 16 ≤ 16; omega
    · show 256 * (13 - (13 - d.1 / 256)) + 256 ≤ 3584; omega)).mpr fun a => ?_
  have := d.isLt; have := b.isLt
  fin_cases a
  · exact ⟨Nat.zero_le _, show b.1 < 0 + 16 by omega⟩
  · show 256 * (13 - (13 - d.1 / 256)) ≤ d.1 ∧ d.1 < 256 * (13 - (13 - d.1 / 256)) + 256
    omega

theorem canon_lanes_over (P : (k : Fin 5) → (laneRect ⟨4 - k.1, by omega⟩).shape.Idx → Elt Ideal .f32) (Z : List (View.Piece (Elt Ideal) S5x16x64 .f32)) (n : Fin 5) (b : Fin 16) (r : Fin 64) :
    View.canon (Val := Elt Ideal) ((List.ofFn fun k : Fin 5 => ⟨laneRect ⟨4 - k.1, by omega⟩, P k⟩) ++ Z) (ix3 n b r)
      = View.canon (Val := Elt Ideal) (List.ofFn fun k : Fin 5 => ⟨laneRect ⟨4 - k.1, by omega⟩, P k⟩) (ix3 n b r) := by
  refine canon_append_left Z _ _ ⟨_, List.mem_ofFn.mpr ⟨⟨4 - n.1, by omega⟩, rfl⟩, ?_⟩
  refine (Rect.mem_set_unit (s := S5x16x64) (off := ![4 - (4 - n.1), 0, 0]) (size := S1x16x64.size) (inb := fun a => by
    fin_cases a
    · show 4 - (4 - n.1) + 1 ≤ 5; omega
    · show 0 + 16 ≤ 16; omega
    · show 0 + 64 ≤ 64; omega)).mpr fun a => ?_
  have := n.isLt; have := b.isLt; have := r.isLt
  fin_cases a
  · show 4 - (4 - n.1) ≤ n.1 ∧ n.1 < 4 - (4 - n.1) + 1
    omega
  · exact ⟨Nat.zero_le _, show b.1 < 0 + 16 by omega⟩
  · exact ⟨Nat.zero_le _, show r.1 < 0 + 64 by omega⟩

theorem pay66_at (b : Fin 16) (d : Fin 3584) : k0_pay66 (F := Ideal) (ix2 b d) = (0 : EReal) := by
  pointwise [k0_pay66]

theorem pay67_at (n : Fin 5) (b : Fin 16) (r : Fin 64) : k0_pay67 (F := Ideal) (ix3 n b r) = (0 : EReal) := by
  pointwise [k0_pay67]

end Cert.KernelIdeal.Vocab

end
-- ==== Proof.FirstSums.lean ====
/-
  What the first grid point leaves in the two accumulators: its shares, added to zero.
-/
module

public import proofs.«01_k».proof.Proof.FirstPoint
public import proofs.«01_k».proof.Proof.Overlay
public import proofs.«01_k».proof.Proof.Payloads
public import proofs.«01_k».proof.Proof.Points
public import proofs.«01_k».proof.Proof.Gen.KernelIdeal.Frame
public import Idealize.ShloMosaic.Lib.Pipeline.ReadBack

@[expose] public section

set_option maxRecDepth 16384
set_option maxHeartbeats 4000000

noncomputable section

namespace Cert.KernelIdeal.Steps

open Cert.KernelIdeal Cert.KernelIdeal.Gen Idealize.ShloMosaic Idealize.ShloMosaic.TcCoe Idealize.ShloMosaic.Tactic Idealize.SL.Sem

variable (m : (ℓ : Loc nD τ sig) → Buf (Elt Ideal) ℓ) (hH : Hyps m) (c : Dev nD) (t : Fin cfg0.N)

theorem down_A (h0 : t.val % 37 = 0) (h1 : ¬ t.val % 37 = 36) (L : List (View.Piece (Elt Ideal) S16x3584 .f32))
    (hL : L = ((List.ofFn fun k : Fin 14 => ⟨Vocab.tileRect ⟨13 - k.1, by omega⟩,
      Vocab.downTile (View.ld (k0_pay66 (F := Ideal)) (Vocab.tileRect ⟨13 - k.1, by omega⟩)) (firstGroup m c t (Vocab.storedRows (iblk m c 2 t) (iblk m c 3 t)) (Vocab.storedCoefs (iblk m c 0 t) (Vocab.shrunk (iblk m c 0 t) (iblk m c 1 t) (Vocab.normed (iblk m c 2 t) (iblk m c 3 t)) (iblk m c 4 t))) Vocab.storedPerm) (secondGroup m c t (Vocab.storedRows (iblk m c 2 t) (iblk m c 3 t)) (Vocab.storedCoefs (iblk m c 0 t) (Vocab.shrunk (iblk m c 0 t) (iblk m c 1 t) (Vocab.normed (iblk m c 2 t) (iblk m c 3 t)) (iblk m c 4 t))) Vocab.storedPerm)
        (Vocab.scalePair (Vocab.storedScales (iblk m c 16 t)) (grid0.coords t) 0) (Vocab.scalePair (Vocab.storedScales (iblk m c 16 t)) (grid0.coords t) 1) (iblk m c 15 t) ⟨13 - k.1, by omega⟩⟩)
      ++ [⟨Rect.unit (s := S16x3584) ![0, 0] S16x3584.size inb_S16x3584_S16x3584_0_0, k0_pay66 (F := Ideal)⟩])) :
    (left m hH c t).2.2.2.2.2.2.2.2.2.1 = View.canon (Val := Elt Ideal) L := by
  unfold left
  rw [outsAt0_A m hH c t h0 h1]
  dsimp only
  unfold sout0_A_3
  rw [View.read_writes_junk_eq_canon]
  unfold kernelRun0_A
  dsimp only
  sl_unfold_words
  simp only [Vocab.readAt_pick]
  simp (disch := decide) only [↓View.readCov_skip (s := S16x3584) (e := .f32), ↓View.readCov_fill (s := S16x3584) (e := .f32)]
  simp only [View.readAt_eq_ld, ↓View.readCov_skip, ↓View.readCov_fill, View.readCov_eq_canon', Memref.IsWhole.read_unread, read_unread_whole]
  refine congrArg (View.canon (Val := Elt Ideal)) ?_
  rw [(show View.canon (Val := Elt Ideal) (s := S16x3584) (e := .f32) [_, _] = (Vocab.residual (iblk m c 2 t)) from ?eR)]
  case eR => rfl
  try simp only [Vocab.pay15_eq, Vocab.pay16_eq, Vocab.pay17_eq, Vocab.pay19_eq, Vocab.pay20_eq, Vocab.pay21_eq, Vocab.pay22_eq, Vocab.pay23_eq, Vocab.pay25_eq, Vocab.pay26_eq, Vocab.pay27_eq, Vocab.pay28_eq, Vocab.pay29_eq, Vocab.pay31_eq, Vocab.pay32_eq]
  rw [(show k0_pay9 _ _ _ _ _ _ = Vocab.initPerm from ?eQ),
    (show k0_pay14 _ _ = Vocab.normed (iblk m c 2 t) (iblk m c 3 t) from ?eN),
    (show k0_pay34 (F := Ideal) _ _ _ _ _ _ _ _ _ _ = Vocab.rowWord (iblk m c 0 t) from ?eW),
    (show k0_pay41 _ _ _ _ _ _ _ _ _ = Vocab.rowFactor (iblk m c 0 t) (iblk m c 1 t) from ?eF),
    (show k0_pay44 _ _ _ _ _ _ _ _ _ _ = (Vocab.shrunk (iblk m c 0 t) (iblk m c 1 t) (Vocab.normed (iblk m c 2 t) (iblk m c 3 t)) (iblk m c 4 t)) from ?eH),
    (show View.canon (Val := Elt Ideal) (s := S16x3584) (e := .bf16) _ = (Vocab.storedRows (iblk m c 2 t) (iblk m c 3 t)) from ?eX),
    (show View.canon (Val := Elt Ideal) (s := S2x16x320) (e := .bf16) _ = (Vocab.storedCoefs (iblk m c 0 t) (Vocab.shrunk (iblk m c 0 t) (iblk m c 1 t) (Vocab.normed (iblk m c 2 t) (iblk m c 3 t)) (iblk m c 4 t))) from ?eC)]
  case eQ => rfl
  case eN => exact congrArg (fun w => k0_pay14 w _) (Vocab.whole_eq _)
  case eW => rfl
  case eF => rfl
  case eH => rfl
  case eX => rfl
  case eC => rfl
  rw [(show View.canon (Val := Elt Ideal) (s := S256x256) (e := .bf16) _ = Vocab.storedPerm from ?eP)]
  case eP => rfl
  rw [hL]
  generalize hz : View.read (Elt Ideal) (View.whole cc0_scratch6) _ = z
  have hz' : Vocab.storedScales (iblk m c 16 t) = z := by
    rw [← hz, View.read_writes_junk_eq_canon]
    rfl
  rw [hz']
  clear hz hz'
  unfold firstGroup secondGroup lowHidden highHidden
  generalize Vocab.storedRows (iblk m c 2 t) (iblk m c 3 t) = s0, Vocab.storedCoefs (iblk m c 0 t) (Vocab.shrunk (iblk m c 0 t) (iblk m c 1 t) (Vocab.normed (iblk m c 2 t) (iblk m c 3 t)) (iblk m c 4 t)) = s1, Vocab.storedPerm = q, iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 15 t = x15
  rw [(show k0_pay187 _ _ _ _ _ _ _ _ _ = Vocab.reorder (Vocab.firstCols (Vocab.hidden s0 s1 x5 x7 x9 x11 x13)) (Vocab.firstCols (Vocab.hidden s0 s1 x6 x8 x10 x12 x14)) (Vocab.wholePerm q) from ?e1),
    (show k0_pay188 _ _ _ _ _ _ _ _ _ = Vocab.reorder (Vocab.lastCols (Vocab.hidden s0 s1 x5 x7 x9 x11 x13)) (Vocab.lastCols (Vocab.hidden s0 s1 x6 x8 x10 x12 x14)) (Vocab.wholePerm q) from ?e2)]
  case e1 => rfl
  case e2 => rfl
  generalize Vocab.reorder (Vocab.firstCols _) _ _ = a
  generalize Vocab.reorder (Vocab.lastCols _) _ _ = b
  rfl

theorem add_A (h0 : t.val % 37 = 0) (h1 : ¬ t.val % 37 = 36) (L : List (View.Piece (Elt Ideal) S5x16x64 .f32))
    (hL : L = ((List.ofFn fun k : Fin 5 => ⟨Vocab.laneRect ⟨4 - k.1, by omega⟩,
      Vocab.coefTile (View.ld (k0_pay67 (F := Ideal)) (Vocab.laneRect ⟨4 - k.1, by omega⟩)) (lowHidden m c t (Vocab.storedRows (iblk m c 2 t) (iblk m c 3 t)) (Vocab.storedCoefs (iblk m c 0 t) (Vocab.shrunk (iblk m c 0 t) (iblk m c 1 t) (Vocab.normed (iblk m c 2 t) (iblk m c 3 t)) (iblk m c 4 t)))) (highHidden m c t (Vocab.storedRows (iblk m c 2 t) (iblk m c 3 t)) (Vocab.storedCoefs (iblk m c 0 t) (Vocab.shrunk (iblk m c 0 t) (iblk m c 1 t) (Vocab.normed (iblk m c 2 t) (iblk m c 3 t)) (iblk m c 4 t))))
        (iblk m c 17 t) (iblk m c 18 t) ⟨4 - k.1, by omega⟩⟩)
      ++ [⟨Rect.unit (s := S5x16x64) ![0, 0, 0] S5x16x64.size inb_S5x16x64_S5x16x64_0_0_0, k0_pay67 (F := Ideal)⟩])) :
    (left m hH c t).2.2.2.2.2.2.2.2.2.2.1 = View.canon (Val := Elt Ideal) L := by
  unfold left
  rw [outsAt0_A m hH c t h0 h1]
  dsimp only
  unfold sout0_A_4
  rw [View.read_writes_junk_eq_canon]
  unfold kernelRun0_A
  dsimp only
  sl_unfold_words
  simp only [Vocab.readAt_pick]
  simp (disch := decide) only [↓View.readCov_skip (s := S5x16x64) (e := .f32), ↓View.readCov_fill (s := S5x16x64) (e := .f32)]
  simp only [View.readAt_eq_ld, ↓View.readCov_skip, ↓View.readCov_fill, View.readCov_eq_canon', Memref.IsWhole.read_unread, read_unread_whole]
  rw [(show View.canon (Val := Elt Ideal) (s := S16x3584) (e := .f32) [_, _] = (Vocab.residual (iblk m c 2 t)) from ?eR)]
  case eR => rfl
  try simp only [Vocab.pay15_eq, Vocab.pay16_eq, Vocab.pay17_eq, Vocab.pay19_eq, Vocab.pay20_eq, Vocab.pay21_eq, Vocab.pay22_eq, Vocab.pay23_eq, Vocab.pay25_eq, Vocab.pay26_eq, Vocab.pay27_eq, Vocab.pay28_eq, Vocab.pay29_eq, Vocab.pay31_eq, Vocab.pay32_eq]
  rw [(show k0_pay9 _ _ _ _ _ _ = Vocab.initPerm from ?eQ),
    (show k0_pay14 _ _ = Vocab.normed (iblk m c 2 t) (iblk m c 3 t) from ?eN),
    (show k0_pay34 (F := Ideal) _ _ _ _ _ _ _ _ _ _ = Vocab.rowWord (iblk m c 0 t) from ?eW),
    (show k0_pay41 _ _ _ _ _ _ _ _ _ = Vocab.rowFactor (iblk m c 0 t) (iblk m c 1 t) from ?eF),
    (show k0_pay44 _ _ _ _ _ _ _ _ _ _ = (Vocab.shrunk (iblk m c 0 t) (iblk m c 1 t) (Vocab.normed (iblk m c 2 t) (iblk m c 3 t)) (iblk m c 4 t)) from ?eH),
    (show View.canon (Val := Elt Ideal) (s := S16x3584) (e := .bf16) _ = (Vocab.storedRows (iblk m c 2 t) (iblk m c 3 t)) from ?eX),
    (show View.canon (Val := Elt Ideal) (s := S2x16x320) (e := .bf16) _ = (Vocab.storedCoefs (iblk m c 0 t) (Vocab.shrunk (iblk m c 0 t) (iblk m c 1 t) (Vocab.normed (iblk m c 2 t) (iblk m c 3 t)) (iblk m c 4 t))) from ?eC)]
  case eQ => rfl
  case eN => exact congrArg (fun w => k0_pay14 w _) (Vocab.whole_eq _)
  case eW => rfl
  case eF => rfl
  case eH => rfl
  case eX => rfl
  case eC => rfl
  refine congrArg (View.canon (Val := Elt Ideal)) ?_
  rw [hL]
  unfold lowHidden highHidden
  generalize Vocab.storedRows (iblk m c 2 t) (iblk m c 3 t) = s0, Vocab.storedCoefs (iblk m c 0 t) (Vocab.shrunk (iblk m c 0 t) (iblk m c 1 t) (Vocab.normed (iblk m c 2 t) (iblk m c 3 t)) (iblk m c 4 t)) = s1, iblk m c 5 t = x5, iblk m c 6 t = x6, iblk m c 7 t = x7, iblk m c 8 t = x8, iblk m c 9 t = x9, iblk m c 10 t = x10, iblk m c 11 t = x11, iblk m c 12 t = x12, iblk m c 13 t = x13, iblk m c 14 t = x14, iblk m c 17 t = x17, iblk m c 18 t = x18
  rfl

/-- The down accumulator the first point leaves, at an element. -/
theorem down_first (h0 : t.val % 37 = 0) (h1 : ¬ t.val % 37 = 36) (b : Fin 16) (d : Fin 3584) :
    (left m hH c t).2.2.2.2.2.2.2.2.2.1 (ix2 b d) = downShare m c t (Vocab.storedRows (iblk m c 2 t) (iblk m c 3 t)) (Vocab.storedCoefs (iblk m c 0 t) (firstShrunk m c t)) (Vocab.storedScales (iblk m c 16 t)) b d := by
  rw [down_A m hH c t h0 h1 _ rfl]
  refine (Vocab.canon_tiles_over _ _ b d).trans ?_
  refine (storedDown_at m c t (Vocab.storedRows (iblk m c 2 t) (iblk m c 3 t)) (Vocab.storedCoefs (iblk m c 0 t) (firstShrunk m c t)) Vocab.storedPerm (k0_pay66 (F := Ideal)) (Vocab.storedScales (iblk m c 16 t))
    (Vocab.storedPerm_eq ▸ Vocab.initPerm_isPerm) b d).trans ?_
  rw [Vocab.pay66_at, zero_add]

/-- The coefficients the first point leaves, at an element. -/
theorem add_first (h0 : t.val % 37 = 0) (h1 : ¬ t.val % 37 = 36) (n : Fin 5) (b : Fin 16) (r : Fin 64) :
    (left m hH c t).2.2.2.2.2.2.2.2.2.2.1 (ix3 n b r) = coefShare m c t (Vocab.storedRows (iblk m c 2 t) (iblk m c 3 t)) (Vocab.storedCoefs (iblk m c 0 t) (firstShrunk m c t)) n b r := by
  rw [add_A m hH c t h0 h1 _ rfl]
  refine (Vocab.canon_lanes_over _ _ n b r).trans ?_
  refine (storedAdd_at m c t (Vocab.storedRows (iblk m c 2 t) (iblk m c 3 t)) (Vocab.storedCoefs (iblk m c 0 t) (firstShrunk m c t)) (k0_pay67 (F := Ideal)) n b r).trans ?_
  rw [Vocab.pay67_at, zero_add]

end Cert.KernelIdeal.Steps

end
-- ==== Proof.Inv.lean ====
/-
  What every grid point leaves, by induction on the grid: the scratches filled once hold the mathematics of the
  arguments, and the accumulators hold the sums over the points so far.
-/
module

public import proofs.«01_k».proof.Proof.StepA
public import proofs.«01_k».proof.Proof.StepB
public import proofs.«01_k».proof.Proof.StepC
public import proofs.«01_k».proof.Proof.FirstSums

@[expose] public section

set_option maxRecDepth 16384

noncomputable section

namespace Cert.KernelIdeal.Steps

open Cert.KernelIdeal Cert.KernelIdeal.Gen Idealize.ShloMosaic Idealize.ShloMosaic.TcCoe Idealize.SL.Sem

variable (m : (ℓ : Loc nD τ sig) → Buf (Elt Ideal) ℓ) (hH : Hyps m) (c : Dev nD) (t : Fin cfg0.N)

/-- What holds after a grid point. -/
structure Inv : Prop where
  holds : Holds m c (left m hH c t).2.2.2.2.2.2.1 (left m hH c t).2.2.2.2.2.2.2.1 (left m hH c t).2.2.2.2.2.2.2.2.2.2.2.2
  perm : Vocab.IsPerm (left m hH c t).2.2.2.2.2.2.2.2.1
  resid : ∀ (b : Fin 12) (k : Fin 3584), (left m hH c t).2.2.2.2.2.2.2.2.2.2.2.1 (ix2 ⟨b.1, by omega⟩ k) = (argsAt m c).x b k
  normed : ∀ (b : Fin 12) (k : Fin 3584), (left m hH c t).2.1 (ix2 b k) = Spec.xn (argsAt m c) b k
  shrunk : ∀ (b : Fin 12) (r : Fin 128), (left m hH c t).2.2.2.2.1 (ix2 b r) = Spec.s (argsAt m c) b r
  low : ∀ (b : Fin 12) (l : Fin 256), (left m hH c t).2.2.1 (ix2 b l) = Spec.h (argsAt m c) b ⟨256 * t.val + l.val, by have := lt_points t; omega⟩
  high : ∀ (b : Fin 12) (l : Fin 256), (left m hH c t).2.2.2.1 (ix2 b l) = Spec.h (argsAt m c) b ⟨9472 + (256 * t.val + l.val), by have := lt_points t; omega⟩
  down : ∀ (b : Fin 12) (d : Fin 3584), (left m hH c t).2.2.2.2.2.2.2.2.2.1 (ix2 ⟨b.1, by omega⟩ d)
    = ∑ j : Fin (t.val + 1), downSum m c b d ⟨j.1, by have := lt_points t; omega⟩
  coefs : ∀ (n : Fin 5) (b : Fin 12) (r : Fin 64), (left m hH c t).2.2.2.2.2.2.2.2.2.2.1 (ix3 n ⟨b.1, by omega⟩ r)
    = ∑ j : Fin (t.val + 1), coefSum m c n b r ⟨j.1, by have := lt_points t; omega⟩

theorem normedRows_at (n : FVec Ideal S16x3584 .bf16) (b : Fin 12) (k : Fin 3584) : Vocab.normedRows n (ix2 b k) = n (ix2 ⟨b.1, by omega⟩ k) := by
  pointwise [Vocab.normedRows]

theorem shrunkRows_at (s : FVec Ideal S16x128 .f32) (b : Fin 12) (r : Fin 128) : k0_pay46 s (ix2 b r) = s (ix2 ⟨b.1, by omega⟩ r) := by
  pointwise [k0_pay46, k0_pay45]

variable {m c}

/-- The invariant at the first point. -/
theorem inv_first (hw : WordsOk m c) (ht : t.val = 0) : Inv m hH c t := by
  have h0 : t.val % 37 = 0 := by omega
  have h1 : ¬ t.val % 37 = 36 := by omega
  have hh := firstHolds t hw
  have ej : ∀ f : Fin 37 → EReal, ∑ j : Fin (t.val + 1), f ⟨j.1, by have := lt_points t; omega⟩ = f ⟨t.val, lt_points t⟩ := fun f => by
    obtain ⟨n, hn⟩ := t
    obtain rfl : n = 0 := ht
    rw [Fin.sum_univ_one]
    rfl
  refine ⟨?_, ?_, ?_, ?_, ?_, ?_, ?_, ?_, ?_⟩
  · rw [rows_A m hH c t h0 h1, coefs_A m hH c t h0 h1, scales_A m hH c t h0 h1]; exact hh
  · rw [perm_A m hH c t h0 h1, Vocab.storedPerm_eq]; exact Vocab.initPerm_isPerm
  · intro b k; rw [resid_A m hH c t h0 h1, Vocab.residual_at, xrows_at]; rfl
  · intro b k
    rw [normed_A m hH c t h0 h1, View.canon_unit_zero (by funext a; fin_cases a <;> rfl)]
    exact (normedRows_at _ b k).trans (firstNormed_at t b k)
  · intro b r
    rw [shrunk_A m hH c t h0 h1, View.canon_unit_zero (by funext a; fin_cases a <;> rfl)]
    exact (shrunkRows_at _ b r).trans (firstShrunk_at t hw b r)
  · intro b l; rw [low_A m hH c t h0 h1, storedTile_at]; exact lowHidden_at t hh b l
  · intro b l; rw [high_A m hH c t h0 h1, storedTile_at]; exact highHidden_at t hh b l
  · intro b d; rw [down_first m hH c t h0 h1, ej (downSum m c b d)]; exact downShare_at t hh b d
  · intro n b r; rw [add_first m hH c t h0 h1, ej (coefSum m c n b r)]; exact coefShare_at t hh n b r

/-- What a later point leaves, from what it found: the last point's case is the others'. -/
theorem later (h0 : ¬ t.val % 37 = 0) :
    (left m hH c t).2.1 = (before m hH c t).2.1 ∧ (left m hH c t).2.2.2.2.1 = (before m hH c t).2.2.2.2.1
    ∧ (left m hH c t).2.2.2.2.2.2.1 = (before m hH c t).2.2.2.2.2.2.1 ∧ (left m hH c t).2.2.2.2.2.2.2.1 = (before m hH c t).2.2.2.2.2.2.2.1
    ∧ (left m hH c t).2.2.2.2.2.2.2.2.1 = (before m hH c t).2.2.2.2.2.2.2.2.1
    ∧ (left m hH c t).2.2.2.2.2.2.2.2.2.2.2.1 = (before m hH c t).2.2.2.2.2.2.2.2.2.2.2.1
    ∧ (left m hH c t).2.2.2.2.2.2.2.2.2.2.2.2 = (before m hH c t).2.2.2.2.2.2.2.2.2.2.2.2
    ∧ (left m hH c t).2.2.1 = storedTile (lowHidden m c t (before m hH c t).2.2.2.2.2.2.1 (before m hH c t).2.2.2.2.2.2.2.1)
    ∧ (left m hH c t).2.2.2.1 = storedTile (highHidden m c t (before m hH c t).2.2.2.2.2.2.1 (before m hH c t).2.2.2.2.2.2.2.1)
    ∧ (left m hH c t).2.2.2.2.2.2.2.2.2.1 = storedDown m c t (before m hH c t).2.2.2.2.2.2.1 (before m hH c t).2.2.2.2.2.2.2.1 (before m hH c t).2.2.2.2.2.2.2.2.1 (before m hH c t).2.2.2.2.2.2.2.2.2.1 (before m hH c t).2.2.2.2.2.2.2.2.2.2.2.2
    ∧ (left m hH c t).2.2.2.2.2.2.2.2.2.2.1 = storedAdd m c t (before m hH c t).2.2.2.2.2.2.1 (before m hH c t).2.2.2.2.2.2.2.1 (before m hH c t).2.2.2.2.2.2.2.2.2.2.1 := by
  by_cases h1 : t.val % 37 = 36
  · exact ⟨normed_C m hH c t h0 h1, shrunk_C m hH c t h0 h1, rows_C m hH c t h0 h1, coefs_C m hH c t h0 h1, perm_C m hH c t h0 h1, resid_C m hH c t h0 h1,
      scales_C m hH c t h0 h1, low_C m hH c t h0 h1, high_C m hH c t h0 h1, down_C m hH c t h0 h1, add_C m hH c t h0 h1⟩
  · exact ⟨normed_B m hH c t h0 h1, shrunk_B m hH c t h0 h1, rows_B m hH c t h0 h1, coefs_B m hH c t h0 h1, perm_B m hH c t h0 h1, resid_B m hH c t h0 h1,
      scales_B m hH c t h0 h1, low_B m hH c t h0 h1, high_B m hH c t h0 h1, down_B m hH c t h0 h1, add_B m hH c t h0 h1⟩

/-- The invariant passes from a point to the next. -/
theorem inv_next (h0 : ¬ t.val % 37 = 0) (s : Fin cfg0.N) (hs : t.val = s.val + 1) (h : Inv m hH c s) : Inv m hH c t := by
  have eb : before m hH c t = left m hH c s := by
    unfold before left
    congr 1
    omega
  obtain ⟨e1, e2, e3, e4, e5, e6, e7, e8, e9, e10, e11⟩ := later (m := m) (c := c) hH t h0
  rw [eb] at e1 e2 e3 e4 e5 e6 e7 e8 e9 e10 e11
  have ej : ∀ f : Fin 37 → EReal, ∑ j : Fin (t.val + 1), f ⟨j.1, by have := lt_points t; omega⟩
      = (∑ j : Fin (s.val + 1), f ⟨j.1, by have := lt_points s; omega⟩) + f ⟨t.val, lt_points t⟩ := fun f => by
    obtain ⟨n, hn⟩ := t
    obtain rfl : n = s.val + 1 := hs
    rw [Fin.sum_univ_castSucc]
    rfl
  refine ⟨?_, ?_, ?_, ?_, ?_, ?_, ?_, ?_, ?_⟩
  · rw [e3, e4, e7]; exact h.holds
  · rw [e5]; exact h.perm
  · rw [e6]; exact h.resid
  · rw [e1]; exact h.normed
  · rw [e2]; exact h.shrunk
  · intro b l; rw [e8, storedTile_at]; exact lowHidden_at t h.holds b l
  · intro b l; rw [e9, storedTile_at]; exact highHidden_at t h.holds b l
  · intro b d; rw [e10, storedDown_at m c t _ _ _ _ _ h.perm, ej (downSum m c b d), h.down, downShare_at t h.holds]
  · intro n b r; rw [e11, storedAdd_at, ej (coefSum m c n b r), h.coefs, coefShare_at t h.holds]

/-- The invariant holds after every point. -/
theorem inv (hw : WordsOk m c) : ∀ (n : ℕ) (t : Fin cfg0.N), t.val = n → Inv m hH c t
  | 0, t, ht => inv_first hH t hw ht
  | n + 1, t, ht => by
    have := lt_points t
    exact inv_next hH t (by omega) ⟨n, by have := t.isLt; omega⟩ ht (inv hw n _ rfl)

end Cert.KernelIdeal.Steps

end
-- ==== Proof.Arrays.lean ====
/-
  The arrays the run leaves, element by element, from what the grid points leave.
-/
module

public import proofs.«01_k».proof.Proof.Inv
public import proofs.«01_k».proof.Proof.Gen.KernelIdeal.Value

@[expose] public section

set_option maxRecDepth 16384

noncomputable section

namespace Cert.KernelIdeal.Steps

open Cert.KernelIdeal Cert.KernelIdeal.Gen Cert.KernelIdeal.Value Idealize.ShloMosaic Idealize.ShloMosaic.TcCoe Idealize.SL.Sem

/-- The block indices of the outputs. -/
theorem idxOut : ∀ t : Fin cfg0.N, win0_20.index t = ![0, 0] ∧ win0_21.index t = ![0, 0] ∧ win0_22.index t = ![0, t.val] ∧ win0_23.index t = ![0, t.val]
    ∧ win0_24.index t = ![0, 0] ∧ win0_25.index t = ![0, 0] :=
  (by decide +kernel : ∀ t : Fin grid0.N, _)

/-- The last grid point. -/
def lastPoint : Fin cfg0.N := ⟨36, by decide +kernel⟩

theorem last_mod : lastPoint.val % 37 = 36 := by decide

/-- Two points that are both the last are one. -/
theorem last_eq {t t' : Fin cfg0.N} (h : t.val % 37 = 36) (h' : t'.val % 37 = 36) : t = t' :=
  Fin.ext (by have := lt_points t; have := lt_points t'; omega)

variable {m : (ℓ : Loc nD τ sig) → Buf (Elt Ideal) ℓ} (hH : Hyps m) (c : Dev nD)

theorem arr20 {t : Fin cfg0.N} (ht : t.val % 37 = 36) (b : Fin 12) (d : Fin 3584) : (dats m hH 0 c).arrAt 20 cfg0.N (ix2 b d) = (left m hH c t).1 (ix2 b d) := by
  have h := congrFun ((dats m hH 0 c).read_blk_arrAt_eq_flushed 20
    (fun u u' hf hf' hne => absurd (last_eq ((flush0_20 u).mp hf) ((flush0_20 u').mp hf')) hne) cfg0.N t t.isLt ((flush0_20 _).mpr ht)) (ix2 b d)
  rw [flushed20] at h
  unfold left
  generalize (outsAt0 m hH c t.val t.isLt).1 = Y at h ⊢
  refine Eq.trans ?_ h
  generalize (dats m hH 0 c).arrAt 20 cfg0.N = X
  symm
  blk_ext! [idxOut t]

theorem arr21 {t : Fin cfg0.N} (ht : t.val % 37 = 36) (b : Fin 12) (d : Fin 3584) : (dats m hH 0 c).arrAt 21 cfg0.N (ix2 b d) = (left m hH c t).2.1 (ix2 b d) := by
  have h := congrFun ((dats m hH 0 c).read_blk_arrAt_eq_flushed 21
    (fun u u' hf hf' hne => absurd (last_eq ((flush0_21 u).mp hf) ((flush0_21 u').mp hf')) hne) cfg0.N t t.isLt ((flush0_21 _).mpr ht)) (ix2 b d)
  rw [flushed21] at h
  unfold left
  generalize (outsAt0 m hH c t.val t.isLt).2.1 = Y at h ⊢
  refine Eq.trans ?_ h
  generalize (dats m hH 0 c).arrAt 21 cfg0.N = X
  symm
  blk_ext! [idxOut t]

theorem arr24 {t : Fin cfg0.N} (ht : t.val % 37 = 36) (b : Fin 12) (r : Fin 128) : (dats m hH 0 c).arrAt 24 cfg0.N (ix2 b r) = (left m hH c t).2.2.2.2.1 (ix2 b r) := by
  have h := congrFun ((dats m hH 0 c).read_blk_arrAt_eq_flushed 24
    (fun u u' hf hf' hne => absurd (last_eq ((flush0_24 u).mp hf) ((flush0_24 u').mp hf')) hne) cfg0.N t t.isLt ((flush0_24 _).mpr ht)) (ix2 b r)
  rw [flushed24] at h
  unfold left
  generalize (outsAt0 m hH c t.val t.isLt).2.2.2.2.1 = Y at h ⊢
  refine Eq.trans ?_ h
  generalize (dats m hH 0 c).arrAt 24 cfg0.N = X
  symm
  blk_ext! [idxOut t]

theorem arr25 {t : Fin cfg0.N} (ht : t.val % 37 = 36) (b : Fin 12) (r : Fin 64) : (dats m hH 0 c).arrAt 25 cfg0.N (ix2 b r) = (left m hH c t).2.2.2.2.2.1 (ix2 b r) := by
  have h := congrFun ((dats m hH 0 c).read_blk_arrAt_eq_flushed 25
    (fun u u' hf hf' hne => absurd (last_eq ((flush0_25 u).mp hf) ((flush0_25 u').mp hf')) hne) cfg0.N t t.isLt ((flush0_25 _).mpr ht)) (ix2 b r)
  rw [flushed25] at h
  unfold left
  generalize (outsAt0 m hH c t.val t.isLt).2.2.2.2.2.1 = Y at h ⊢
  refine Eq.trans ?_ h
  generalize (dats m hH 0 c).arrAt 25 cfg0.N = X
  symm
  blk_ext! [idxOut t]

theorem arr22 (t : Fin cfg0.N) (b : Fin 12) (l : Fin 256) :
    (dats m hH 0 c).arrAt 22 cfg0.N (ix2 b ⟨256 * t.val + l.val, by have := lt_points t; omega⟩) = (left m hH c t).2.2.1 (ix2 b l) := by
  have h := congrFun (blocks22 m hH c t (flush0_22 t)) (ix2 b l)
  rw [flushed22] at h
  unfold left
  generalize (outsAt0 m hH c t.val t.isLt).2.2.1 = Y at h ⊢
  refine Eq.trans ?_ h
  generalize (dats m hH 0 c).arrAt 22 cfg0.N = X
  symm
  blk_ext! [idxOut t]

theorem arr23 (t : Fin cfg0.N) (b : Fin 12) (l : Fin 256) :
    (dats m hH 0 c).arrAt 23 cfg0.N (ix2 b ⟨256 * t.val + l.val, by have := lt_points t; omega⟩) = (left m hH c t).2.2.2.1 (ix2 b l) := by
  have h := congrFun (blocks23 m hH c t (flush0_23 t)) (ix2 b l)
  rw [flushed23] at h
  unfold left
  generalize (outsAt0 m hH c t.val t.isLt).2.2.2.1 = Y at h ⊢
  refine Eq.trans ?_ h
  generalize (dats m hH 0 c).arrAt 23 cfg0.N = X
  symm
  blk_ext! [idxOut t]

/-! ## The six results -/

variable {c} (hw : WordsOk m c)
include hw

theorem xn_at (b : Fin 12) (d : Fin 3584) : (dats m hH 0 c).arrAt 21 cfg0.N (ix2 b d) = Spec.xn (argsAt m c) b d :=
  (arr21 hH c last_mod b d).trans ((inv hH hw _ lastPoint rfl).normed b d)

theorem s_at (b : Fin 12) (r : Fin 128) : (dats m hH 0 c).arrAt 24 cfg0.N (ix2 b r) = Spec.s (argsAt m c) b r :=
  (arr24 hH c last_mod b r).trans ((inv hH hw _ lastPoint rfl).shrunk b r)

/-- A column of the hidden halves is a grid point's column. -/
theorem column_of (f : Fin 9472) : ∃ (t : Fin cfg0.N) (l : Fin 256), f = ⟨256 * t.val + l.val, by have := lt_points t; omega⟩ :=
  ⟨⟨f.1 / 256, lt_of_lt_of_eq (b := 37) (by omega) (by decide +kernel)⟩, ⟨f.1 % 256, by omega⟩, Fin.ext (Nat.div_add_mod f.1 256).symm⟩

theorem low_at (b : Fin 12) (f : Fin 9472) : (dats m hH 0 c).arrAt 22 cfg0.N (ix2 b f) = Spec.h (argsAt m c) b ⟨f.1, by omega⟩ := by
  obtain ⟨t, l, rfl⟩ := column_of hw f
  exact (arr22 hH c t b l).trans ((inv hH hw _ t rfl).low b l)

theorem high_at (b : Fin 12) (f : Fin 9472) : (dats m hH 0 c).arrAt 23 cfg0.N (ix2 b f) = Spec.h (argsAt m c) b ⟨9472 + f.1, by omega⟩ := by
  obtain ⟨t, l, rfl⟩ := column_of hw f
  exact (arr23 hH c t b l).trans ((inv hH hw _ t rfl).high b l)

/-- The coefficients the last point forms. -/
theorem lastCoefs (b : Fin 12) (r : Fin 64) :
    Vocab.finalCoefs (iblk m c 0 lastPoint) (iblk m c 1 lastPoint) ((left m hH c lastPoint).2.2.2.2.2.2.2.2.2.2.1) (ix2 ⟨b.1, by omega⟩ r) = Spec.t (argsAt m c) b r := by
  rw [Vocab.finalCoefs_at _ _ _ b _ (adapter_at lastPoint hw b), (inv hH hw _ lastPoint rfl).coefs, factors_at, Spec.t, ← coefSum_total]
  rfl

theorem t_at (b : Fin 12) (r : Fin 64) : (dats m hH 0 c).arrAt 25 cfg0.N (ix2 b r) = Spec.t (argsAt m c) b r := by
  have h0 : ¬ lastPoint.val % 37 = 0 := by decide
  have h1 : lastPoint.val % 37 = 36 := by decide
  rw [arr25 hH c last_mod, coefsOut_C m hH c lastPoint h0 h1, ← add_C m hH c lastPoint h0 h1, View.canon_unit_zero (by funext a; fin_cases a <;> rfl)]
  exact (Vocab.coefRows_at _ b r).trans (lastCoefs hH hw b r)

theorem out_at (b : Fin 12) (d : Fin 3584) : (dats m hH 0 c).arrAt 20 cfg0.N (ix2 b d) = Spec.out (argsAt m c) b d := by
  have h0 : ¬ lastPoint.val % 37 = 0 := by decide
  have h1 : lastPoint.val % 37 = 36 := by decide
  rw [arr20 hH c last_mod, rowsOut_C m hH c lastPoint h0 h1, ← add_C m hH c lastPoint h0 h1, ← down_C m hH c lastPoint h0 h1, ← resid_C m hH c lastPoint h0 h1,
    View.canon_unit_zero (by funext a; fin_cases a <;> rfl)]
  refine (Vocab.finalRows_at _ _ _ _ _ b _ (adapter_at lastPoint hw b) d).trans ?_
  rw [(inv hH hw _ lastPoint rfl).resid, (inv hH hw _ lastPoint rfl).down, Spec.out, ← downSum_total]
  simp only [lastCoefs hH hw, grow_at]
  rfl

end Cert.KernelIdeal.Steps

end
-- ==== Proof.RefValue.lean ====
/-
  What the reference computes: each of its stages, read at an index, is the function of `Spec` it writes.
-/
module

public import proofs.«01_k».proof.Proof.Gen.ReferenceIdeal.Read
public import proofs.«01_k».proof.Proof.Spec
public import Idealize.ShloMosaic.Lib.Pointwise
public import Idealize.ShloMosaic.Lib.Routing.OpsSet
public import Idealize.ShloMosaic.Lib.TwoAxisContraction

@[expose] public section

set_option maxRecDepth 16384

noncomputable section

namespace Cert.RefValue

open Cert.ReferenceIdeal Cert.ReferenceIdeal.Gen Cert.ReferenceIdeal.Read Idealize.ShloMosaic

variable (x0 : Vec Ideal S12x1x3584 .bf16) (x1 : Vec Ideal S3584 .f32) (x2 : Vec Ideal S12 .i32)
  (x3 : Vec Ideal S1792x37888 .i8) (x4 : Vec Ideal S28x37888 .bf16) (x5 : Vec Ideal S9472x3584 .i8)
  (x6 : Vec Ideal S148x3584 .bf16) (x7 : Vec Ideal S5x3584x128 .bf16) (x8 : Vec Ideal S5x2x64x18944 .bf16)
  (x9 : Vec Ideal S5x18944x64 .bf16) (x10 : Vec Ideal S5x64x3584 .bf16) (x11 : Vec Ideal S5 .f32)

/-! ## Facts about single words -/

/-- The low four bits, masked and moved into the signed range, are `Spec.lowWord`. -/
theorem low_word : ∀ w : BitVec 8, Scalar.select (IntOp.cmpi CmpIPredicate.sge (IntOp.andi (BitVec.setWidth 32 w) 15#32) 8#32)
    (IntOp.subi (IntOp.andi (BitVec.setWidth 32 w) 15#32) 16#32) (IntOp.andi (BitVec.setWidth 32 w) 15#32) = Spec.lowWord w := by
  decide +kernel

/-- The high four bits, shifted down and moved into the signed range, are `Spec.highWord`. -/
theorem high_word : ∀ w : BitVec 8, Scalar.select (IntOp.cmpi CmpIPredicate.sge (IntOp.shrsi .host (BitVec.setWidth 32 w) 4#32) 8#32)
    (IntOp.subi (IntOp.shrsi .host (BitVec.setWidth 32 w) 4#32) 16#32) (IntOp.shrsi .host (BitVec.setWidth 32 w) 4#32) = Spec.highWord w := by
  decide +kernel

theorem word_cases (v : BitVec 32) (hv : v.toNat < 5) : ∃ a : Fin 5, v = BitVec.ofNat 32 a.1 :=
  ⟨⟨v.toNat, hv⟩, by simp⟩

theorem onehot_word (v : BitVec 32) (n : Fin 5) (hv : v.toNat < 5) :
    (FloatOps.uitofp (F := Ideal) .f32 (IntOp.cmpi CmpIPredicate.eq v (BitVec.ofNat 32 n.1)) : EReal)
      = if (⟨v.toNat % 5, Nat.mod_lt _ (by decide)⟩ : Fin 5) = n then 1 else 0 := by
  obtain ⟨a, rfl⟩ := word_cases v hv
  have h : ∀ a n : Fin 5, IntOp.cmpi CmpIPredicate.eq (BitVec.ofNat 32 a.1) (BitVec.ofNat 32 n.1)
      = (if (⟨(BitVec.ofNat 32 a.1).toNat % 5, Nat.mod_lt _ (by decide)⟩ : Fin 5) = n then 1#1 else 0#1) := by decide +kernel
  rw [h a n]
  split <;> simp [FloatOps.uitofp]

theorem take_word (v : BitVec 32) (hv : v.toNat < 5) :
    Scalar.select (IntOp.cmpi CmpIPredicate.slt v 0#32) (IntOp.addi v 5#32) v = BitVec.ofNat 32 (v.toNat % 5) := by
  obtain ⟨a, rfl⟩ := word_cases v hv
  revert a; decide +kernel

/-! ## The stages -/

theorem v1_at (b : Fin 12) (k : Fin 3584) : val_main_v1 (F := Ideal) x0 (ix2 b k) = x0 (ix3 b 0 k) := by
  pointwise [val_main_v1, val_main_v0]

theorem v15_at (b : Fin 12) (k : Fin 3584) : val_main_v15 (F := Ideal) x0 x1 (ix2 b k) = Spec.xn (Spec.argsOf x0 x1 x2 x3 x4 x5 x6 x7 x8 x9 x10 x11) b k := by
  pointwise [val_main_v15, val_main_v14, val_main_v13, val_main_v12, val_main_v11, val_main_v10, val_main_v9, val_main_v8,
    val_main_v7, val_main_v6, val_main_v5, val_main_v4, val_main_v3, val_main_v2, v1_at, val_main_cst, val_main_cst_0,
    val_main_cst_1, Spec.xn, Spec.normAt, Spec.argsOf, Spec.count, Spec.eps]

/-- The comparison with the adapters' numbers, converted, is one at the row's adapter and zero elsewhere. -/
theorem v16_at (b : Fin 12) (n : Fin 5) (hx : (x2 (ix1 b) : BitVec 32).toNat < 5) :
    val_main_v16 (F := Ideal) x2 (ix2 b n) = if (Spec.argsOf x0 x1 x2 x3 x4 x5 x6 x7 x8 x9 x10 x11).ad b = n then 1 else 0 := by
  pointwise [val_main_v16, val_main_call0_v4, val_main_call0_v3, val_main_call0_v2, val_main_call0_v1, val_main_call0_v0, Spec.argsOf]
  exact onehot_word _ n hx

theorem v24_at (b : Fin 12) (hx : (x2 (ix1 b) : BitVec 32).toNat < 5) :
    val_main_v24 (F := Ideal) x2 x11 (ix1 b) = (Spec.argsOf x0 x1 x2 x3 x4 x5 x6 x7 x8 x9 x10 x11).scl ((Spec.argsOf x0 x1 x2 x3 x4 x5 x6 x7 x8 x9 x10 x11).ad b) := by
  refine Routing.gather_take1 (N := 5) (n := 12) _ rfl rfl rfl rfl x11 _ b ((Spec.argsOf x0 x1 x2 x3 x4 x5 x6 x7 x8 x9 x10 x11).ad b) ?_ (by decide)
  pointwise [val_main_v23, val_main_v22, val_main_v21, val_main_v20, val_main_v19, val_main_v18, val_main_c, val_main_c_2, Spec.argsOf]
  exact take_word _ hx

theorem v39_at (r : Fin 1792) (c : Fin 37888) : val_main_v39 (F := Ideal) x3 x4 (ix2 r c) = Spec.wlo (Spec.argsOf x0 x1 x2 x3 x4 x5 x6 x7 x8 x9 x10 x11) r c := by
  pointwise [val_main_v39, val_main_v38, val_main_v37, val_main_v36, val_main_v35, val_main_v34, val_main_v33, val_main_v32, val_main_v31, val_main_v30, val_main_v29, val_main_v28, val_main_v27, val_main_v26, val_main_v25, val_main_c_3, val_main_c_4, val_main_c_5]
  rw [low_word]; rfl

theorem v53_at (r : Fin 1792) (c : Fin 37888) : val_main_v53 (F := Ideal) x3 x4 (ix2 r c) = Spec.whi (Spec.argsOf x0 x1 x2 x3 x4 x5 x6 x7 x8 x9 x10 x11) r c := by
  pointwise [val_main_v53, val_main_v52, val_main_v51, val_main_v50, val_main_v49, val_main_v48, val_main_v47, val_main_v46, val_main_v45, val_main_v44, val_main_v43, val_main_v42, val_main_v41, val_main_v40, val_main_v25, val_main_c_6, val_main_c_7, val_main_c_8]
  rw [high_word]; rfl

theorem v58_at (b : Fin 12) (c : Fin 37888) : val_main_v58 (F := Ideal) x0 x1 x3 x4 (ix2 b c) = Spec.gu (Spec.argsOf x0 x1 x2 x3 x4 x5 x6 x7 x8 x9 x10 x11) b c := by
  pointwise [val_main_v58, val_main_v57, val_main_v56, val_main_v55, val_main_v54]
  simp only [v15_at x0 x1 x2 x3 x4 x5 x6 x7 x8 x9 x10 x11, v39_at x0 x1 x2 x3 x4 x5 x6 x7 x8 x9 x10 x11, v53_at x0 x1 x2 x3 x4 x5 x6 x7 x8 x9 x10 x11]
  rfl

theorem v64_at (b : Fin 12) (r : Fin 128) (hx : ∀ b, (x2 (ix1 b) : BitVec 32).toNat < 5) :
    val_main_v64 (F := Ideal) x0 x1 x2 x7 x11 (ix2 b r) = Spec.s (Spec.argsOf x0 x1 x2 x3 x4 x5 x6 x7 x8 x9 x10 x11) b r := by
  pointwise [val_main_v64, val_main_v63, val_main_v62, val_main_v61, val_main_v60, val_main_v59]
  simp only [v15_at x0 x1 x2 x3 x4 x5 x6 x7 x8 x9 x10 x11, v16_at x0 x1 x2 x3 x4 x5 x6 x7 x8 x9 x10 x11 b _ (hx b), v24_at x0 x1 x2 x3 x4 x5 x6 x7 x8 x9 x10 x11 b (hx b), Spec.sum_onehot]
  rfl

theorem v71_at (b : Fin 12) (t : Fin 2) (c : Fin 18944) (hx : ∀ b, (x2 (ix1 b) : BitVec 32).toNat < 5) :
    val_main_v71 (F := Ideal) x0 x1 x2 x7 x8 x11 (ix3 b t c) = Spec.delta (Spec.argsOf x0 x1 x2 x3 x4 x5 x6 x7 x8 x9 x10 x11) b t c := by
  pointwise [val_main_v71, val_main_v70, val_main_v69, val_main_v68, val_main_v67, val_main_v66, val_main_v65, val_main_v17]
  simp only [v64_at x0 x1 x2 x3 x4 x5 x6 x7 x8 x9 x10 x11 _ _ hx, v16_at x0 x1 x2 x3 x4 x5 x6 x7 x8 x9 x10 x11 b _ (hx b)]
  refine (Spec.sum_onehot_right ((Spec.argsOf x0 x1 x2 x3 x4 x5 x6 x7 x8 x9 x10 x11).ad b) _ _).trans ?_
  refine Finset.sum_congr rfl fun r _ => ?_
  rw [mul_comm, Fin.ext (a := ⟨t.1 * 64 + r.1, by omega⟩) (b := ⟨64 * t.1 + r.1, by omega⟩) (by simp only []; omega)]
  rfl

theorem v86_at (b : Fin 12) (c : Fin 18944) (hx : ∀ b, (x2 (ix1 b) : BitVec 32).toNat < 5) :
    val_main_v86 (F := Ideal) x0 x1 x2 x3 x4 x7 x8 x11 (ix2 b c) = Spec.h (Spec.argsOf x0 x1 x2 x3 x4 x5 x6 x7 x8 x9 x10 x11) b c := by
  pointwise [val_main_v86, val_main_v85, val_main_v84, val_main_v83, val_main_v82, val_main_v81, val_main_v80, val_main_v79, val_main_v78, val_main_v77, val_main_v76, val_main_v75, val_main_v74, val_main_v73, val_main_v72, val_main_cst_9, val_main_cst_10]
  simp only [v58_at x0 x1 x2 x3 x4 x5 x6 x7 x8 x9 x10 x11, v71_at x0 x1 x2 x3 x4 x5 x6 x7 x8 x9 x10 x11 _ _ _ hx]
  rfl

theorem v101_at (r : Fin 9472) (c : Fin 3584) : val_main_v101 (F := Ideal) x5 x6 (ix2 r c) = Spec.dlo (Spec.argsOf x0 x1 x2 x3 x4 x5 x6 x7 x8 x9 x10 x11) r c := by
  pointwise [val_main_v101, val_main_v100, val_main_v99, val_main_v98, val_main_v97, val_main_v96, val_main_v95, val_main_v94, val_main_v93, val_main_v92, val_main_v91, val_main_v90, val_main_v89, val_main_v88, val_main_v87, val_main_c_11, val_main_c_12, val_main_c_13]
  rw [low_word]; rfl

theorem v115_at (r : Fin 9472) (c : Fin 3584) : val_main_v115 (F := Ideal) x5 x6 (ix2 r c) = Spec.dhi (Spec.argsOf x0 x1 x2 x3 x4 x5 x6 x7 x8 x9 x10 x11) r c := by
  pointwise [val_main_v115, val_main_v114, val_main_v113, val_main_v112, val_main_v111, val_main_v110, val_main_v109, val_main_v108, val_main_v107, val_main_v106, val_main_v105, val_main_v104, val_main_v103, val_main_v102, val_main_v87, val_main_c_14, val_main_c_15, val_main_c_16]
  rw [high_word]; rfl

theorem v120_at (b : Fin 12) (c : Fin 3584) (hx : ∀ b, (x2 (ix1 b) : BitVec 32).toNat < 5) :
    val_main_v120 (F := Ideal) x0 x1 x2 x3 x4 x5 x6 x7 x8 x11 (ix2 b c) = Spec.y (Spec.argsOf x0 x1 x2 x3 x4 x5 x6 x7 x8 x9 x10 x11) b c := by
  pointwise [val_main_v120, val_main_v119, val_main_v118, val_main_v117, val_main_v116]
  simp only [v86_at x0 x1 x2 x3 x4 x5 x6 x7 x8 x9 x10 x11 _ _ hx, v101_at x0 x1 x2 x3 x4 x5 x6 x7 x8 x9 x10 x11, v115_at x0 x1 x2 x3 x4 x5 x6 x7 x8 x9 x10 x11]
  rfl

theorem v126_at (b : Fin 12) (r : Fin 64) (hx : ∀ b, (x2 (ix1 b) : BitVec 32).toNat < 5) :
    val_main_v126 (F := Ideal) x0 x1 x2 x3 x4 x7 x8 x9 x11 (ix2 b r) = Spec.t (Spec.argsOf x0 x1 x2 x3 x4 x5 x6 x7 x8 x9 x10 x11) b r := by
  pointwise [val_main_v126, val_main_v125, val_main_v124, val_main_v123, val_main_v122, val_main_v121]
  simp only [v86_at x0 x1 x2 x3 x4 x5 x6 x7 x8 x9 x10 x11 _ _ hx, v16_at x0 x1 x2 x3 x4 x5 x6 x7 x8 x9 x10 x11 b _ (hx b), v24_at x0 x1 x2 x3 x4 x5 x6 x7 x8 x9 x10 x11 b (hx b), Spec.sum_onehot]
  rfl

theorem v135_at (b : Fin 12) (c : Fin 3584) (hx : ∀ b, (x2 (ix1 b) : BitVec 32).toNat < 5) :
    val_main_v135 (F := Ideal) x0 x1 x2 x3 x4 x5 x6 x7 x8 x9 x10 x11 (ix2 b c) = Spec.out (Spec.argsOf x0 x1 x2 x3 x4 x5 x6 x7 x8 x9 x10 x11) b c := by
  pointwise [val_main_v135, val_main_v134, val_main_v133, v1_at, val_main_v132, val_main_v131, val_main_v130, val_main_v129, val_main_v128, val_main_v127, val_main_v17]
  simp only [v120_at x0 x1 x2 x3 x4 x5 x6 x7 x8 x9 x10 x11 _ _ hx, v126_at x0 x1 x2 x3 x4 x5 x6 x7 x8 x9 x10 x11 _ _ hx, v16_at x0 x1 x2 x3 x4 x5 x6 x7 x8 x9 x10 x11 b _ (hx b), mul_assoc]
  refine congrArg (fun z => x0 (ix3 b 0 c) + (Spec.y (Spec.argsOf x0 x1 x2 x3 x4 x5 x6 x7 x8 x9 x10 x11) b c + z)) ?_
  exact Spec.sum_onehot_left ((Spec.argsOf x0 x1 x2 x3 x4 x5 x6 x7 x8 x9 x10 x11).ad b) _

theorem v136_at (b : Fin 12) (c : Fin 9472) (hx : ∀ b, (x2 (ix1 b) : BitVec 32).toNat < 5) :
    val_main_v136 (F := Ideal) x0 x1 x2 x3 x4 x7 x8 x11 (ix2 b c) = Spec.h (Spec.argsOf x0 x1 x2 x3 x4 x5 x6 x7 x8 x9 x10 x11) b ⟨c.1, by omega⟩ := by
  pointwise [val_main_v136]
  exact v86_at x0 x1 x2 x3 x4 x5 x6 x7 x8 x9 x10 x11 b _ hx

theorem v137_at (b : Fin 12) (c : Fin 9472) (hx : ∀ b, (x2 (ix1 b) : BitVec 32).toNat < 5) :
    val_main_v137 (F := Ideal) x0 x1 x2 x3 x4 x7 x8 x11 (ix2 b c) = Spec.h (Spec.argsOf x0 x1 x2 x3 x4 x5 x6 x7 x8 x9 x10 x11) b ⟨9472 + c.1, by omega⟩ := by
  pointwise [val_main_v137]
  exact v86_at x0 x1 x2 x3 x4 x5 x6 x7 x8 x9 x10 x11 b _ hx

end Cert.RefValue

end
-- ==== Proof.Results.lean ====
/-
  The reference's results are the kernel's: both are the functions of `Spec`, element by element.
-/
module

public import proofs.«01_k».proof.Proof.Arrays
public import proofs.«01_k».proof.Proof.RefValue

@[expose] public section

set_option maxRecDepth 16384

noncomputable section

namespace Cert.Results

open Idealize.ShloMosaic Idealize.ShloMosaic.TcCoe Idealize.SL.Sem
open Cert.KernelIdeal.Gen Cert.KernelIdeal.Steps Cert.KernelIdeal.Value

/-- Two arrays of two axes that agree at every pair of indices are equal. -/
theorem ext2 {n0 n1 : ℕ} {α : Type} {f g : (⟨2, ![n0, n1]⟩ : Shape).Idx → α} (h : ∀ a b, f (ix2 a b) = g (ix2 a b)) : f = g :=
  funext fun i => by rw [eq_ix2 i]; exact h _ _

variable {m : (ℓ : Loc Cert.KernelIdeal.nD Cert.KernelIdeal.τ Cert.KernelIdeal.sig) → Buf (Elt Ideal) ℓ} (hH : Hyps m)
  {c : Dev Cert.KernelIdeal.nD} (hw : WordsOk m c)

open Cert.KernelIdeal (main_arg0 main_arg1 main_arg2 main_arg3 main_arg4 main_arg5 main_arg6 main_arg7 main_arg8 main_arg9 main_arg10 main_arg11)

include hw

theorem out_eq : Cert.ReferenceIdeal.Read.val_main_v135 (F := Ideal) (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4)) (m ((c : Thread Cert.KernelIdeal.nD Cert.KernelIdeal.τ).loc main_arg5))
    (m ((c : Thread Cert.KernelIdeal.nD Cert.KernelIdeal.τ).loc main_arg6)) (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg9)) (m ((c : Thread Cert.KernelIdeal.nD Cert.KernelIdeal.τ).loc main_arg10)) (m ((c : Thread Cert.KernelIdeal.nD Cert.KernelIdeal.τ).loc main_arg11)) = (dats m hH 0 c).arrAt 20 Cert.KernelIdeal.cfg0.N :=
  ext2 fun b d => (Cert.RefValue.v135_at _ _ _ _ _ _ _ _ _ _ _ _ b d hw).trans (out_at hH hw b d).symm

theorem xn_eq : Cert.ReferenceIdeal.Read.val_main_v15 (F := Ideal) (m ((c : Thread Cert.KernelIdeal.nD Cert.KernelIdeal.τ).loc main_arg0)) (m ((c : Thread Cert.KernelIdeal.nD Cert.KernelIdeal.τ).loc main_arg1)) = (dats m hH 0 c).arrAt 21 Cert.KernelIdeal.cfg0.N :=
  ext2 fun b d => (Cert.RefValue.v15_at (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4)) (m ((c : Thread Cert.KernelIdeal.nD Cert.KernelIdeal.τ).loc main_arg5))
    (m ((c : Thread Cert.KernelIdeal.nD Cert.KernelIdeal.τ).loc main_arg6)) (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg9)) (m ((c : Thread Cert.KernelIdeal.nD Cert.KernelIdeal.τ).loc main_arg10)) (m ((c : Thread Cert.KernelIdeal.nD Cert.KernelIdeal.τ).loc main_arg11)) b d).trans (xn_at hH hw b d).symm

theorem low_eq : Cert.ReferenceIdeal.Read.val_main_v136 (F := Ideal) (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4))
    (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg11)) = (dats m hH 0 c).arrAt 22 Cert.KernelIdeal.cfg0.N :=
  ext2 fun b f => (Cert.RefValue.v136_at (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4)) (m ((c : Thread Cert.KernelIdeal.nD Cert.KernelIdeal.τ).loc main_arg5))
    (m ((c : Thread Cert.KernelIdeal.nD Cert.KernelIdeal.τ).loc main_arg6)) (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg9)) (m ((c : Thread Cert.KernelIdeal.nD Cert.KernelIdeal.τ).loc main_arg10)) (m ((c : Thread Cert.KernelIdeal.nD Cert.KernelIdeal.τ).loc main_arg11)) b f hw).trans (low_at hH hw b f).symm

theorem high_eq : Cert.ReferenceIdeal.Read.val_main_v137 (F := Ideal) (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4))
    (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg11)) = (dats m hH 0 c).arrAt 23 Cert.KernelIdeal.cfg0.N :=
  ext2 fun b f => (Cert.RefValue.v137_at (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4)) (m ((c : Thread Cert.KernelIdeal.nD Cert.KernelIdeal.τ).loc main_arg5))
    (m ((c : Thread Cert.KernelIdeal.nD Cert.KernelIdeal.τ).loc main_arg6)) (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg9)) (m ((c : Thread Cert.KernelIdeal.nD Cert.KernelIdeal.τ).loc main_arg10)) (m ((c : Thread Cert.KernelIdeal.nD Cert.KernelIdeal.τ).loc main_arg11)) b f hw).trans (high_at hH hw b f).symm

theorem s_eq : Cert.ReferenceIdeal.Read.val_main_v64 (F := Ideal) (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg7)) (m ((c : Thread Cert.KernelIdeal.nD Cert.KernelIdeal.τ).loc main_arg11))
    = (dats m hH 0 c).arrAt 24 Cert.KernelIdeal.cfg0.N :=
  ext2 fun b r => (Cert.RefValue.v64_at (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4)) (m ((c : Thread Cert.KernelIdeal.nD Cert.KernelIdeal.τ).loc main_arg5))
    (m ((c : Thread Cert.KernelIdeal.nD Cert.KernelIdeal.τ).loc main_arg6)) (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg9)) (m ((c : Thread Cert.KernelIdeal.nD Cert.KernelIdeal.τ).loc main_arg10)) (m ((c : Thread Cert.KernelIdeal.nD Cert.KernelIdeal.τ).loc main_arg11)) b r hw).trans (s_at hH hw b r).symm

theorem t_eq : Cert.ReferenceIdeal.Read.val_main_v126 (F := Ideal) (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4))
    (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg9)) (m ((c : Thread Cert.KernelIdeal.nD Cert.KernelIdeal.τ).loc main_arg11)) = (dats m hH 0 c).arrAt 25 Cert.KernelIdeal.cfg0.N :=
  ext2 fun b r => (Cert.RefValue.v126_at (m ((c : Thread Cert.KernelIdeal.nD Cert.KernelIdeal.τ).loc main_arg0)) (m ((c : Thread Cert.KernelIdeal.nD Cert.KernelIdeal.τ).loc main_arg1)) (m ((c : Thread Cert.KernelIdeal.nD Cert.KernelIdeal.τ).loc main_arg2)) (m ((c : Thread Cert.KernelIdeal.nD Cert.KernelIdeal.τ).loc main_arg3)) (m ((c : Thread Cert.KernelIdeal.nD Cert.KernelIdeal.τ).loc main_arg4)) (m ((c : Thread Cert.KernelIdeal.nD Cert.KernelIdeal.τ).loc main_arg5))
    (m ((c : Thread Cert.KernelIdeal.nD Cert.KernelIdeal.τ).loc main_arg6)) (m ((c : Thread Cert.KernelIdeal.nD Cert.KernelIdeal.τ).loc main_arg7)) (m ((c : Thread Cert.KernelIdeal.nD Cert.KernelIdeal.τ).loc main_arg8)) (m ((c : Thread Cert.KernelIdeal.nD Cert.KernelIdeal.τ).loc main_arg9)) (m ((c : Thread Cert.KernelIdeal.nD Cert.KernelIdeal.τ).loc main_arg10)) (m ((c : Thread Cert.KernelIdeal.nD Cert.KernelIdeal.τ).loc main_arg11)) b r hw).trans (t_at hH hw b r).symm

end Cert.Results

end
-- ==== Proof.KernelIdealHyps.lean ====
/- The side conditions the printed body assumes — each row's adapter word names one of the five words of
   `lora_scaling` — follow from the precondition. -/
module

public import proofs.«01_k».proof.Proof.Adapters
public import proofs.«01_k».proof.Proof.Gen.KernelIdeal.Frame.Runs

@[expose] public section

namespace Cert.KernelIdealHyps

open Cert.KernelIdeal Cert.KernelIdeal.Gen
open Idealize.ShloMosaic Idealize.ShloMosaic.TcCoe

variable {F : FTy → Type} [FloatOps F]

/-- The word a point reads at any index of its block of `adapter_idx` is below 5 when the array's words are. -/
theorem iblk_lt (m : (ℓ : Loc nD τ sig) → Buf (Elt F) ℓ) (c : Dev nD)
    (h : ∀ y : S12.Idx, (m ((c : Thread nD τ).loc main_arg2) y : BitVec 32).toNat < 5) (t : Fin cfg0.N) (i : S12.Idx) :
    (iblk m c 0 t i : BitVec 32).toNat < 5 := by
  unfold iblk
  rw [View.read_apply, cast_eq]
  have e : V m c (Pipeline.arrRef spec0 0) = m ((c : Thread nD τ).loc main_arg2) := V_main_arg2 m c
  rw [e]
  exact h _

/-- A word below 5 names one word of a five-word array. -/
theorem off_inb (w : BitVec 32) (h : w.toNat < 5) (a : Fin 1) : (![w.toNat] : Fin 1 → ℕ) a + S1.size a ≤ S5.size a := by
  match a with
  | 0 => show w.toNat + 1 ≤ 5; omega

/-- The precondition gives every assumed side condition. -/
theorem hyps_of_words (m : (ℓ : Loc nD τ sig) → Buf (Elt F) ℓ)
    (h : ∀ (c : Dev nD) (y : S12.Idx), (m ((c : Thread nD τ).loc main_arg2) y : BitVec 32).toNat < 5) : Hyps m := by
  intro c t
  refine ⟨?_, ?_, ?_, ?_, ?_, ?_, ?_, ?_, ?_, ?_, ?_, ?_, ?_, ?_, ?_, ?_, ?_, ?_, ?_, ?_, ?_, ?_, ?_, ?_⟩ <;>
  · intro _ _
    simp only [View.readAt_apply, Memref.IsWhole.read_unread]
    exact off_inb _ (iblk_lt m c (h c) t _)

theorem hyps_of_pre (m : (ℓ : Loc nD τ sig) → Buf (Elt Ideal) ℓ) (h : Cert.Pre_KernelIdeal m) : Hyps m :=
  hyps_of_words m fun c => Cert.Adapters.word_lt _ _ _ _ _ _ _ _ _ _ _ _ (h c)

end Cert.KernelIdealHyps
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal.Run
public import proofs.«01_k».proof.Proof.KernelHyps
public import proofs.«01_k».proof.Proof.Results
public import proofs.«01_k».proof.Proof.KernelIdealHyps
public import proofs.«01_k».proof.Proof.Gen.ReferenceIdeal
public import proofs.«01_k».proof.Proof.Gen.Pre_adapters_exist
public import Idealize.ShloMosaic.Adequacy
public import Idealize.ShloMosaic.Init

@[expose] public section

noncomputable section

namespace Cert.Proof

open Idealize.ShloMosaic Idealize.SL.Sem Cert.Kernel

/-- The reference runs and leaves its arguments as they were; it declares no semaphore. -/
theorem referenceFrame [Cert.ReferenceIdeal.Facts] : Cert.quiescent_ReferenceIdeal := fun m ρ _ =>
  θ_run_mono (Cert.ReferenceIdeal.Value.run m ρ) fun r h =>
    ⟨fun c => (h c).2.2.2.2.2.2, sem_eq_zero_of_no_sems (by decide) r.2⟩

/-- The kernel and the reference, run from equal arguments, leave equal results: the kernel's arrays. -/
theorem algebraic : Cert.algebraic_KernelIdeal_ReferenceIdeal := fun m g m' g' h e => by
  have hH := Cert.KernelIdealHyps.hyps_of_pre m h
  have hw : ∀ c, Cert.KernelIdeal.Steps.WordsOk m c := fun c b => Cert.Adapters.word_lt _ _ _ _ _ _ _ _ _ _ _ _ (h c) (ix1 b)
  refine ⟨_, _, _, _, _, _, Cert.KernelIdeal.Value.run_blocks m g hH, θ_run_mono (Cert.ReferenceIdeal.Value.run m' g') fun r k c => ?_⟩
  obtain ⟨a0, a1, a2, a3, a4, a5, a6, a7, a8, a9, a10, a11⟩ := e c
  obtain ⟨r0, r1, r2, r3, r4, r5, rest⟩ := k c
  refine ⟨r0.trans ?_, r1.trans ?_, r2.trans ?_, r3.trans ?_, r4.trans ?_, r5.trans ?_, rest⟩
  · rw [Cert.ReferenceIdeal.Read.val_main_v135_eq, a0, a1, a2, a3, a4, a5, a6, a7, a8, a9, a10, a11]
    exact Cert.Results.out_eq hH (hw c)
  · refine (Cert.ReferenceIdeal.Read.val_main_v15_eq _ _).trans ?_
    rw [a0, a1]
    exact Cert.Results.xn_eq hH (hw c)
  · rw [Cert.ReferenceIdeal.Read.val_main_v136_eq, a0, a1, a2, a3, a4, a7, a8, a11]
    exact Cert.Results.low_eq hH (hw c)
  · rw [Cert.ReferenceIdeal.Read.val_main_v137_eq, a0, a1, a2, a3, a4, a7, a8, a11]
    exact Cert.Results.high_eq hH (hw c)
  · refine (Cert.ReferenceIdeal.Read.val_main_v64_eq _ _ _ _ _).trans ?_
    rw [a0, a1, a2, a7, a11]
    exact Cert.Results.s_eq hH (hw c)
  · rw [Cert.ReferenceIdeal.Read.val_main_v126_eq, a0, a1, a2, a3, a4, a7, a8, a9, a11]
    exact Cert.Results.t_eq hH (hw c)

theorem claim : Cert.Claim := ⟨Cert.Kernel.Gen.facts, Cert.KernelIdeal.Gen.facts, Cert.ReferenceIdeal.Gen.facts, Cert.Pre_adapters_exist.Gen.facts,
  fun m ρ h => Cert.Kernel.Gen.frame m ρ (Cert.KernelHyps.hyps_of_pre m h),
  fun m ρ h => Cert.KernelIdeal.Gen.frame m ρ (Cert.KernelIdealHyps.hyps_of_pre m h),
  fun m ρ => referenceFrame m ρ,
  fun m ρ _ => referenceFrame m ρ trivial,
  trivial,
  fun m g m' g' h e => algebraic m g m' g' h e⟩

end Cert.Proof

end
